-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)) (v2 : (c : Dev Cert.Kernel6Ideal.nD) → Buf (Elt Ideal) ((c.tc : Thread Cert.Kernel6Ideal.nD Cert.Kernel6Ideal.τ).loc Cert.Kernel6Ideal.main_v23_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_v23_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v40) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  IdealRules.named_const.Statement Cert.Kernel7Ideal.κ "masked" .f32 0xF149F2CA#32 ⊥
  ∧ IdealRules.named_const.Statement Cert.Kernel7Ideal.κ "exp2_scale" .f32 0x3E0293EE#32 (((Real.sqrt 128)⁻¹ * (Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v42)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v42) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v138) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  IdealRules.named_const.Statement Cert.Kernel8Ideal.κ "inv_sqrt2" .f32 0x3F3504F3#32 (((Real.sqrt 2)⁻¹ : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
-- ==== Pre_finite7.lean ====
abbrev S8704x6144 : Shape := ⟨2, ![8704, 6144]⟩
abbrev S1x128 : Shape := ⟨2, ![1, 128]⟩
abbrev S1x256 : Shape := ⟨2, ![1, 256]⟩
abbrev S_ : Shape := ⟨0, ![]⟩

class Facts : Prop where
  bitsLt_bf16_f32 : FTy.bits .bf16 < FTy.bits .f32
  bcast_S_S8704x6144 : S_.BroadcastsInDim S8704x6144 (![] : Fin 0 → Fin S8704x6144.rank)
  bcast_S_S1x128 : S_.BroadcastsInDim S1x128 (![] : Fin 0 → Fin S1x128.rank)

variable [Facts]

def fn {F : FTy → Type} [FloatOps F] (main_arg0 : FVec F S8704x6144 .bf16) (main_arg1 : FVec F S1x128 .f32) (main_arg2 : FVec F S1x128 .f32) (main_arg3 : FVec F S1x128 .f32) (main_arg4 : FVec F S1x128 .f32) (main_arg5 : FVec F S1x256 .f32) : IVec S8704x6144 1 × IVec S1x128 1 × IVec S1x128 1 × IVec S1x128 1 × IVec S1x128 1 :=
  let main_v0 : FVec F S8704x6144 .f32 := (extf .f32 · bitsLt_bf16_f32) main_arg0
  let main_v1 : FVec F S8704x6144 .f32 := Host.absf main_v0
  let main_cst : FVec F S_ .f32 := constant S_ .f32 0x7F800000#32
  let main_v2 : FVec F S8704x6144 .f32 := broadcastInDim S8704x6144 ![] bcast_S_S8704x6144 main_cst
  let main_v3 : IVec S8704x6144 1 := cmpf .olt main_v1 main_v2
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S1x128 .f32 := Host.absf main_arg3
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_v13 : FVec F S1x128 .f32 := Host.absf main_arg4
  let main_cst_3 : FVec F S_ .f32 := constant S_ .f32 0x7F800000#32
  let main_v14 : FVec F S1x128 .f32 := broadcastInDim S1x128 ![] bcast_S_S1x128 main_cst_3
  let main_v15 : IVec S1x128 1 := cmpf .olt main_v13 main_v14
  (main_v3, main_v6, main_v9, main_v12, main_v15)
-- ==== Kernel.lean ====
abbrev S8704x2048 : Shape := ⟨2, ![8704, 2048]⟩
abbrev S1x2048x16416 : Shape := ⟨3, ![1, 2048, 16416]⟩
abbrev S1x16384x2048 : Shape := ⟨3, ![1, 16384, 2048]⟩
abbrev S2048x16416 : Shape := ⟨2, ![2048, 16416]⟩
abbrev S16416x2048 : Shape := ⟨2, ![16416, 2048]⟩
abbrev S16384x2048 : Shape := ⟨2, ![16384, 2048]⟩
abbrev S8704x4096 : Shape := ⟨2, ![8704, 4096]⟩
abbrev S32x2048x512 : Shape := ⟨3, ![32, 2048, 512]⟩
abbrev S512x2048 : Shape := ⟨2, ![512, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S1x16384x2048, .f32⟩
  | .hbm, ⟨3, _⟩ => ⟨S2048x16416, .f32⟩
  | .hbm, ⟨4, _⟩ => ⟨S16416x2048, .f32⟩
  | .hbm, ⟨5, _⟩ => ⟨S16416x2048, .bf16⟩
  | .hbm, ⟨6, _⟩ => ⟨S16384x2048, .f32⟩
  | .hbm, ⟨7, _⟩ => ⟨S8704x4096, .bf16⟩
  | .hbm, ⟨8, _⟩ => ⟨S32x2048x512, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048x512, .bf16⟩
  | .local _ .vmem, ⟨9, _⟩ => ⟨S1x2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 17], ![false, false]⟩

def k0_mult1 (i : grid0.Coords) : BitVec 32 :=
  let c0_i32 : BitVec 32 := 0#32
  let arg0 : BitVec 32 := BitVec.ofNat 32 (i 0).val
  let c2048_i32 : BitVec 32 := 2048#32
  let v0 : BitVec 32 := Scalar.muli arg0 c2048_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8704x2048 : Shape := ⟨2, ![8704, 2048]⟩
abbrev S1x2048x16416 : Shape := ⟨3, ![1, 2048, 16416]⟩
abbrev S1x16384x2048 : Shape := ⟨3, ![1, 16384, 2048]⟩
abbrev S2048x16416 : Shape := ⟨2, ![2048, 16416]⟩
abbrev S8704x16416 : Shape := ⟨2, ![8704, 16416]⟩
abbrev S8704x4096 : Shape := ⟨2, ![8704, 4096]⟩
abbrev S16384x2048 : Shape := ⟨2, ![16384, 2048]⟩
abbrev S32x512x2048 : Shape := ⟨3, ![32, 512, 2048]⟩
abbrev S32x2048x512 : Shape := ⟨3, ![32, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S1x16384x2048, .f32⟩
  | .hbm, ⟨3, _⟩ => ⟨S8704x2048, .f32⟩
  | .hbm, ⟨4, _⟩ => ⟨S2048x16416, .f32⟩
  | .hbm, ⟨5, _⟩ => ⟨S8704x16416, .f32⟩
  | .hbm, ⟨6, _⟩ => ⟨S8704x4096, .f32⟩
  | .hbm, ⟨7, _⟩ => ⟨S8704x4096, .bf16⟩
  | .hbm, ⟨8, _⟩ => ⟨S16384x2048, .f32⟩
  | .hbm, ⟨9, _⟩ => ⟨S32x512x2048, .f32⟩
  | .hbm, ⟨10, _⟩ => ⟨S32x2048x512, .f32⟩
  | .hbm, ⟨11, _⟩ => ⟨S32x2048x512, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel2.lean ====
abbrev S8704x2048 : Shape := ⟨2, ![8704, 2048]⟩
abbrev S1x2048x16416 : Shape := ⟨3, ![1, 2048, 16416]⟩
abbrev S1x16384x2048 : Shape := ⟨3, ![1, 16384, 2048]⟩
abbrev S2048x16416 : Shape := ⟨2, ![2048, 16416]⟩
abbrev S16416x2048 : Shape := ⟨2, ![16416, 2048]⟩
abbrev S16384x2048 : Shape := ⟨2, ![16384, 2048]⟩
abbrev S8704x6144 : Shape := ⟨2, ![8704, 6144]⟩
abbrev S512x2048 : Shape := ⟨2, ![512, 2048]⟩
abbrev S2048x2048 : Shape := ⟨2, ![2048, 2048]⟩

abbrev nBuf : Space → Nat
  | .hbm => 9
  | .vmem => 10
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S1x16384x2048, .f32⟩
  | .hbm, ⟨3, _⟩ => ⟨S2048x16416, .f32⟩
  | .hbm, ⟨4, _⟩ => ⟨S16416x2048, .f32⟩
  | .hbm, ⟨5, _⟩ => ⟨S16416x2048, .bf16⟩
  | .hbm, ⟨6, _⟩ => ⟨S16384x2048, .f32⟩
  | .hbm, ⟨7, _⟩ => ⟨S8704x6144, .bf16⟩
  | .hbm, ⟨8, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 17], ![false, false]⟩

def k0_mult1 (i : grid0.Coords) : BitVec 32 :=
  let c6176_i32 : BitVec 32 := 6176#32
  let arg0 : BitVec 32 := BitVec.ofNat 32 (i 0).val
  let c2048_i32 : BitVec 32 := 2048#32
  let v0 : BitVec 32 := Scalar.muli arg0 c2048_i32
  let v1 : BitVec 32 := Scalar.addi c6176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c6176_i32 : BitVec 32 := 6176#32
  let v1 : BitVec 32 := Scalar.addi c6176_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8704x2048 : Shape := ⟨2, ![8704, 2048]⟩
abbrev S1x2048x16416 : Shape := ⟨3, ![1, 2048, 16416]⟩
abbrev S1x16384x2048 : Shape := ⟨3, ![1, 16384, 2048]⟩
abbrev S2048x16416 : Shape := ⟨2, ![2048, 16416]⟩
abbrev S8704x16416 : Shape := ⟨2, ![8704, 16416]⟩
abbrev S8704x6144 : Shape := ⟨2, ![8704, 6144]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S1x16384x2048, .f32⟩
  | .hbm, ⟨3, _⟩ => ⟨S8704x2048, .f32⟩
  | .hbm, ⟨4, _⟩ => ⟨S2048x16416, .f32⟩
  | .hbm, ⟨5, _⟩ => ⟨S8704x16416, .f32⟩
  | .hbm, ⟨6, _⟩ => ⟨S8704x6144, .f32⟩
  | .hbm, ⟨7, _⟩ => ⟨S8704x6144, .bf16⟩
  | .hbm, ⟨8, _⟩ => ⟨S16384x2048, .f32⟩
  | .hbm, ⟨9, _⟩ => ⟨S16384x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8704x2048 : Shape := ⟨2, ![8704, 2048]⟩
abbrev S1x2048x16416 : Shape := ⟨3, ![1, 2048, 16416]⟩
abbrev S2048x16416 : Shape := ⟨2, ![2048, 16416]⟩
abbrev S16416x2048 : Shape := ⟨2, ![16416, 2048]⟩
abbrev S8192x2048 : Shape := ⟨2, ![8192, 2048]⟩
abbrev S512x2048 : Shape := ⟨2, ![512, 2048]⟩
abbrev S2048x2048 : Shape := ⟨2, ![2048, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S2048x16416, .f32⟩
  | .hbm, ⟨3, _⟩ => ⟨S16416x2048, .f32⟩
  | .hbm, ⟨4, _⟩ => ⟨S16416x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let c4096_i32 : BitVec 32 := 4096#32
  let arg0 : BitVec 32 := BitVec.ofNat 32 (i 0).val
  let c2048_i32 : BitVec 32 := 2048#32
  let v0 : BitVec 32 := Scalar.muli arg0 c2048_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8704x2048 : Shape := ⟨2, ![8704, 2048]⟩
abbrev S1x2048x16416 : Shape := ⟨3, ![1, 2048, 16416]⟩
abbrev S2048x16416 : Shape := ⟨2, ![2048, 16416]⟩
abbrev S8704x16416 : Shape := ⟨2, ![8704, 16416]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S8704x2048, .f32⟩
  | .hbm, ⟨3, _⟩ => ⟨S2048x16416, .f32⟩
  | .hbm, ⟨4, _⟩ => ⟨S8704x16416, .f32⟩
  | .hbm, ⟨5, _⟩ => ⟨S8192x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8704x2048 : Shape := ⟨2, ![8704, 2048]⟩
abbrev S1x2048x16416 : Shape := ⟨3, ![1, 2048, 16416]⟩
abbrev S2048x16416 : Shape := ⟨2, ![2048, 16416]⟩
abbrev S16416x2048 : Shape := ⟨2, ![16416, 2048]⟩
abbrev S8192x4096 : Shape := ⟨2, ![8192, 4096]⟩
abbrev S512x2048 : Shape := ⟨2, ![512, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S2048x16416, .f32⟩
  | .hbm, ⟨3, _⟩ => ⟨S16416x2048, .f32⟩
  | .hbm, ⟨4, _⟩ => ⟨S16416x2048, .bf16⟩
  | .hbm, ⟨5, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c12320_i32 : BitVec 32 := 12320#32
  let arg0 : BitVec 32 := BitVec.ofNat 32 (i 0).val
  let c2048_i32 : BitVec 32 := 2048#32
  let v0 : BitVec 32 := Scalar.muli arg0 c2048_i32
  let v1 : BitVec 32 := Scalar.addi c12320_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c12320_i32 : BitVec 32 := 12320#32
  let v1 : BitVec 32 := Scalar.addi c12320_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x2048 : Shape := ⟨2, ![8704, 2048]⟩
abbrev S1x2048x16416 : Shape := ⟨3, ![1, 2048, 16416]⟩
abbrev S2048x16416 : Shape := ⟨2, ![2048, 16416]⟩
abbrev S8704x16416 : Shape := ⟨2, ![8704, 16416]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x16416, .f32⟩
  | .hbm, ⟨2, _⟩ => ⟨S8704x2048, .f32⟩
  | .hbm, ⟨3, _⟩ => ⟨S2048x16416, .f32⟩
  | .hbm, ⟨4, _⟩ => ⟨S8704x16416, .f32⟩
  | .hbm, ⟨5, _⟩ => ⟨S8192x4096, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S8192x4096 : Shape := ⟨2, ![8192, 4096]⟩
abbrev S4x2048x2048 : Shape := ⟨3, ![4, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S2048x8192 : Shape := ⟨2, ![2048, 8192]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S4x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048, .f32⟩
  | .hbm, ⟨8, _⟩ => ⟨S8192x2048, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048, .f32⟩
  | .hbm, ⟨16, _⟩ => ⟨S1x2048, .f32⟩
  | .hbm, ⟨17, _⟩ => ⟨S8192x2048, .f32⟩
  | .hbm, ⟨18, _⟩ => ⟨S8192x2048, .bf16⟩
  | .hbm, ⟨19, _⟩ => ⟨S2048x8192, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S2048x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S2048x256, .bf16⟩
  | .local _ .vmem, ⟨19, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8192x2048 : Shape := ⟨2, ![8192, 2048]⟩
abbrev S8192x4096 : Shape := ⟨2, ![8192, 4096]⟩
abbrev S4x2048x2048 : Shape := ⟨3, ![4, 2048, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S4x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S2048x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S8192x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .bf16⟩
  | .hbm, ⟨57, _⟩ => ⟨S2048x8192, .f32⟩
  | .hbm, ⟨58, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel6.lean ====
abbrev S4x2048x2048 : Shape := ⟨3, ![4, 2048, 2048]⟩
abbrev S16x2048 : Shape := ⟨2, ![16, 2048]⟩
abbrev S1x2048 : Shape := ⟨2, ![1, 2048]⟩
abbrev S1x2048x16416 : Shape := ⟨3, ![1, 2048, 16416]⟩
abbrev S1x16x1024 : Shape := ⟨3, ![1, 16, 1024]⟩
abbrev S1x1024 : Shape := ⟨2, ![1, 1024]⟩
abbrev S8192x2048 : Shape := ⟨2, ![8192, 2048]⟩
abbrev S_ : Shape := ⟨0, ![]⟩
abbrev S112x2048 : Shape := ⟨2, ![112, 2048]⟩
abbrev S128x2048 : Shape := ⟨2, ![128, 2048]⟩
abbrev S1x128x1x2048 : Shape := ⟨4, ![1, 128, 1, 2048]⟩
abbrev S4x128x1x2048 : Shape := ⟨4, ![4, 128, 1, 2048]⟩
abbrev S512x2048 : Shape := ⟨2, ![512, 2048]⟩
abbrev S2048x16416 : Shape := ⟨2, ![2048, 16416]⟩
abbrev S16416x2048 : Shape := ⟨2, ![16416, 2048]⟩
abbrev S32x2048 : Shape := ⟨2, ![32, 2048]⟩
abbrev S16x1024 : Shape := ⟨2, ![16, 1024]⟩
abbrev S128x1024 : Shape := ⟨2, ![128, 1024]⟩
abbrev S2048 : Shape := ⟨1, ![2048]⟩
abbrev S1024 : Shape := ⟨1, ![1024]⟩
abbrev S8704x2048 : Shape := ⟨2, ![8704, 2048]⟩
abbrev S8704x1024 : Shape := ⟨2, ![8704, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 41
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S1x2048, .f32⟩
  | .hbm, ⟨3, _⟩ => ⟨S1x2048x16416, .f32⟩
  | .hbm, ⟨4, _⟩ => ⟨S1x16x1024, .f32⟩
  | .hbm, ⟨5, _⟩ => ⟨S1x1024, .f32⟩
  | .hbm, ⟨6, _⟩ => ⟨S1x16x1024, .f32⟩
  | .hbm, ⟨7, _⟩ => ⟨S1x1024, .f32⟩
  | .hbm, ⟨8, _⟩ => ⟨S8192x2048, .f32⟩
  | .hbm, ⟨9, _⟩ => ⟨S_, .f32⟩
  | .hbm, ⟨10, _⟩ => ⟨S112x2048, .f32⟩
  | .hbm, ⟨11, _⟩ => ⟨S128x2048, .f32⟩
  | .hbm, ⟨12, _⟩ => ⟨S1x128x1x2048, .f32⟩
  | .hbm, ⟨13, _⟩ => ⟨S4x128x1x2048, .f32⟩
  | .hbm, ⟨14, _⟩ => ⟨S512x2048, .f32⟩
  | .hbm, ⟨15, _⟩ => ⟨S2048x16416, .f32⟩
  | .hbm, ⟨16, _⟩ => ⟨S16416x2048, .f32⟩
  | .hbm, ⟨17, _⟩ => ⟨S16416x2048, .bf16⟩
  | .hbm, ⟨18, _⟩ => ⟨S32x2048, .bf16⟩
  | .hbm, ⟨19, _⟩ => ⟨S_, .i32⟩
  | .hbm, ⟨20, _⟩ => ⟨S_, .bf16⟩
  | .hbm, ⟨21, _⟩ => ⟨S128x2048, .bf16⟩
  | .hbm, ⟨22, _⟩ => ⟨S16x1024, .f32⟩
  | .hbm, ⟨23, _⟩ => ⟨S_, .i32⟩
  | .hbm, ⟨24, _⟩ => ⟨S_, .f32⟩
  | .hbm, ⟨25, _⟩ => ⟨S128x1024, .f32⟩
  | .hbm, ⟨26, _⟩ => ⟨S128x1024, .bf16⟩
  | .hbm, ⟨27, _⟩ => ⟨S16x1024, .f32⟩
  | .hbm, ⟨28, _⟩ => ⟨S_, .i32⟩
  | .hbm, ⟨29, _⟩ => ⟨S_, .f32⟩
  | .hbm, ⟨30, _⟩ => ⟨S128x1024, .f32⟩
  | .hbm, ⟨31, _⟩ => ⟨S128x1024, .bf16⟩
  | .hbm, ⟨32, _⟩ => ⟨S2048, .f32⟩
  | .hbm, ⟨33, _⟩ => ⟨S1x2048, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8704x2048, .bf16⟩
  | .hbm, ⟨39, _⟩ => ⟨S8704x1024, .f32⟩
  | .hbm, ⟨40, _⟩ => ⟨S8704x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S128x2048, .bf16⟩
  | .local _ .vmem, ⟨5, _⟩ => ⟨S128x1024, .bf16⟩
  | .local _ .vmem, ⟨6, _⟩ => ⟨S128x1024, .bf16⟩
  | .local _ .vmem, ⟨7, _⟩ => ⟨S1x1024, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4x2048x2048 : Shape := ⟨3, ![4, 2048, 2048]⟩
abbrev S16x2048 : Shape := ⟨2, ![16, 2048]⟩
abbrev S1x2048 : Shape := ⟨2, ![1, 2048]⟩
abbrev S1x2048x16416 : Shape := ⟨3, ![1, 2048, 16416]⟩
abbrev S1x16x1024 : Shape := ⟨3, ![1, 16, 1024]⟩
abbrev S1x1024 : Shape := ⟨2, ![1, 1024]⟩
abbrev S_ : Shape := ⟨0, ![]⟩
abbrev S112x2048 : Shape := ⟨2, ![112, 2048]⟩
abbrev S128x2048 : Shape := ⟨2, ![128, 2048]⟩
abbrev S8192x2048 : Shape := ⟨2, ![8192, 2048]⟩
abbrev S8704x2048 : Shape := ⟨2, ![8704, 2048]⟩
abbrev S2048 : Shape := ⟨1, ![2048]⟩
abbrev S8704 : Shape := ⟨1, ![8704]⟩
abbrev S8704x1 : Shape := ⟨2, ![8704, 1]⟩
abbrev S2048x16416 : Shape := ⟨2, ![2048, 16416]⟩
abbrev S2048x32 : Shape := ⟨2, ![2048, 32]⟩
abbrev S8704x32 : Shape := ⟨2, ![8704, 32]⟩
abbrev S8704x16 : Shape := ⟨2, ![8704, 16]⟩
abbrev S16x1024 : Shape := ⟨2, ![16, 1024]⟩
abbrev S8704x1024 : Shape := ⟨2, ![8704, 1024]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S1x2048, .f32⟩
  | .hbm, ⟨3, _⟩ => ⟨S1x2048x16416, .f32⟩
  | .hbm, ⟨4, _⟩ => ⟨S1x16x1024, .f32⟩
  | .hbm, ⟨5, _⟩ => ⟨S1x1024, .f32⟩
  | .hbm, ⟨6, _⟩ => ⟨S1x16x1024, .f32⟩
  | .hbm, ⟨7, _⟩ => ⟨S1x1024, .f32⟩
  | .hbm, ⟨8, _⟩ => ⟨S_, .f32⟩
  | .hbm, ⟨9, _⟩ => ⟨S112x2048, .f32⟩
  | .hbm, ⟨10, _⟩ => ⟨S128x2048, .f32⟩
  | .hbm, ⟨11, _⟩ => ⟨S8192x2048, .f32⟩
  | .hbm, ⟨12, _⟩ => ⟨S8704x2048, .f32⟩
  | .hbm, ⟨13, _⟩ => ⟨S2048, .f32⟩
  | .hbm, ⟨14, _⟩ => ⟨S8704x2048, .f32⟩
  | .hbm, ⟨15, _⟩ => ⟨S_, .f32⟩
  | .hbm, ⟨16, _⟩ => ⟨S8704, .f32⟩
  | .hbm, ⟨17, _⟩ => ⟨S8704x1, .f32⟩
  | .hbm, ⟨18, _⟩ => ⟨S_, .f32⟩
  | .hbm, ⟨19, _⟩ => ⟨S8704x1, .f32⟩
  | .hbm, ⟨20, _⟩ => ⟨S8704x1, .f32⟩
  | .hbm, ⟨21, _⟩ => ⟨S_, .f32⟩
  | .hbm, ⟨22, _⟩ => ⟨S8704x1, .f32⟩
  | .hbm, ⟨23, _⟩ => ⟨S8704x1, .f32⟩
  | .hbm, ⟨24, _⟩ => ⟨S8704x1, .f32⟩
  | .hbm, ⟨25, _⟩ => ⟨S8704x2048, .f32⟩
  | .hbm, ⟨26, _⟩ => ⟨S8704x2048, .f32⟩
  | .hbm, ⟨27, _⟩ => ⟨S1x2048, .f32⟩
  | .hbm, ⟨28, _⟩ => ⟨S8704x2048, .f32⟩
  | .hbm, ⟨29, _⟩ => ⟨S8704x2048, .f32⟩
  | .hbm, ⟨30, _⟩ => ⟨S2048x16416, .f32⟩
  | .hbm, ⟨31, _⟩ => ⟨S2048x32, .f32⟩
  | .hbm, ⟨32, _⟩ => ⟨S8704x32, .f32⟩
  | .hbm, ⟨33, _⟩ => ⟨S8704x16, .f32⟩
  | .hbm, ⟨34, _⟩ => ⟨S8704x16, .f32⟩
  | .hbm, ⟨35, _⟩ => ⟨S16x1024, .f32⟩
  | .hbm, ⟨36, _⟩ => ⟨S8704x1024, .f32⟩
  | .hbm, ⟨37, _⟩ => ⟨S1024, .f32⟩
  | .hbm, ⟨38, _⟩ => ⟨S1x1024, .f32⟩
  | .hbm, ⟨39, _⟩ => ⟨S8704x1024, .f32⟩
  | .hbm, ⟨40, _⟩ => ⟨S8704x1024, .f32⟩
  | .hbm, ⟨41, _⟩ => ⟨S8704x1024, .f32⟩
  | .hbm, ⟨42, _⟩ => ⟨S_, .f32⟩
  | .hbm, ⟨43, _⟩ => ⟨S8704x1024, .f32⟩
  | .hbm, ⟨44, _⟩ => ⟨S8704x1024, .f32⟩
  | .hbm, ⟨45, _⟩ => ⟨S8704x1024, .f32⟩
  | .hbm, ⟨46, _⟩ => ⟨S8704x1024, .f32⟩
  | .hbm, ⟨47, _⟩ => ⟨S8704x1024, .i1⟩
  | .hbm, ⟨48, _⟩ => ⟨S8704x1024, .f32⟩
  | .hbm, ⟨49, _⟩ => ⟨S8704x1024, .f32⟩
  | .hbm, ⟨50, _⟩ => ⟨S8704x1024, .f32⟩
  | .hbm, ⟨51, _⟩ => ⟨S8704x1024, .f32⟩
  | .hbm, ⟨52, _⟩ => ⟨S8704x1024, .f32⟩
  | .hbm, ⟨53, _⟩ => ⟨S8704x1024, .f32⟩
  | .hbm, ⟨54, _⟩ => ⟨S8704x1024, .f32⟩
  | .hbm, ⟨55, _⟩ => ⟨S8704x1024, .f32⟩
  | .hbm, ⟨56, _⟩ => ⟨S8704x1024, .f32⟩
  | .hbm, ⟨57, _⟩ => ⟨S_, .f32⟩
  | .hbm, ⟨58, _⟩ => ⟨S8704x1024, .f32⟩
  | .hbm, ⟨59, _⟩ => ⟨S8704x1024, .f32⟩
  | .hbm, ⟨60, _⟩ => ⟨S16x1024, .f32⟩
  | .hbm, ⟨61, _⟩ => ⟨S8704x1024, .f32⟩
  | .hbm, ⟨62, _⟩ => ⟨S1024, .f32⟩
  | .hbm, ⟨63, _⟩ => ⟨S1x1024, .f32⟩
  | .hbm, ⟨64, _⟩ => ⟨S8704x1024, .f32⟩
  | .hbm, ⟨65, _⟩ => ⟨S8704x1024, .f32⟩
  | .hbm, ⟨66, _⟩ => ⟨S8704x1024, .f32⟩
  | .hbm, ⟨67, _⟩ => ⟨S_, .f32⟩
  | .hbm, ⟨68, _⟩ => ⟨S8704x1024, .f32⟩
  | .hbm, ⟨69, _⟩ => ⟨S8704x1024, .f32⟩
  | .hbm, ⟨70, _⟩ => ⟨S8704x1024, .f32⟩
  | .hbm, ⟨71, _⟩ => ⟨S8704x1024, .f32⟩
  | .hbm, ⟨72, _⟩ => ⟨S8704x1024, .i1⟩
  | .hbm, ⟨73, _⟩ => ⟨S8704x1024, .f32⟩
  | .hbm, ⟨74, _⟩ => ⟨S8704x1024, .f32⟩
  | .hbm, ⟨75, _⟩ => ⟨S8704x1024, .f32⟩
  | .hbm, ⟨76, _⟩ => ⟨S8704x1024, .f32⟩
  | .hbm, ⟨77, _⟩ => ⟨S8704x1024, .f32⟩
  | .hbm, ⟨78, _⟩ => ⟨S8704x1024, .f32⟩
  | .hbm, ⟨79, _⟩ => ⟨S8704x1024, .f32⟩
  | .hbm, ⟨80, _⟩ => ⟨S8704x1024, .f32⟩
  | .hbm, ⟨81, _⟩ => ⟨S8704x1024, .f32⟩
  | .hbm, ⟨82, _⟩ => ⟨S_, .f32⟩
  | .hbm, ⟨83, _⟩ => ⟨S8704x1024, .f32⟩
  | .hbm, ⟨84, _⟩ => ⟨S8704x1024, .f32⟩
  | .hbm, ⟨85, _⟩ => ⟨S8704x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v29 : Ref sig .tc := ⟨.hbm, 56, rfl⟩
abbrev main_cst_3 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call1_v0 : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_v8 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_v1 : Ref sig .tc := ⟨.hbm, 80, rfl⟩
abbrev main_v38 : Ref sig .tc := ⟨.hbm, 81, rfl⟩
abbrev main_cst_4 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩

abbrev nD : Nat := 1
abbrev τ : Topo := Topo.v7x

variable {F : FTy → Type} [FloatOps F]
-- ==== Kernel7.lean ====
abbrev S8704x6144 : Shape := ⟨2, ![8704, 6144]⟩
abbrev S1x128 : Shape := ⟨2, ![1, 128]⟩
abbrev S1x256 : Shape := ⟨2, ![1, 256]⟩
abbrev S2048 : Shape := ⟨1, ![2048]⟩
abbrev S_ : Shape := ⟨0, ![]⟩
abbrev S16 : Shape := ⟨1, ![16]⟩
abbrev S112 : Shape := ⟨1, ![112]⟩
abbrev S2176 : Shape := ⟨1, ![2176]⟩
abbrev S2176x1 : Shape := ⟨2, ![2176, 1]⟩
abbrev S1x16 : Shape := ⟨2, ![1, 16]⟩
abbrev S2176x16 : Shape := ⟨2, ![2176, 16]⟩
abbrev S2176x96 : Shape := ⟨2, ![2176, 96]⟩
abbrev S2176x128 : Shape := ⟨2, ![2176, 128]⟩
abbrev S1x2176x128 : Shape := ⟨3, ![1, 2176, 128]⟩
abbrev S3x2176x128 : Shape := ⟨3, ![3, 2176, 128]⟩
abbrev S128 : Shape := ⟨1, ![128]⟩
abbrev S256 : Shape := ⟨1, ![256]⟩
abbrev S8192x2048 : Shape := ⟨2, ![8192, 2048]⟩
abbrev S2048x256 : Shape := ⟨2, ![2048, 256]⟩
abbrev S128x256 : Shape := ⟨2, ![128, 256]⟩
abbrev S3x2048x128 : Shape := ⟨3, ![3, 2048, 128]⟩
abbrev S2x2176x128 : Shape := ⟨3, ![2, 2176, 128]⟩
abbrev S2176x256 : Shape := ⟨2, ![2176, 256]⟩
abbrev S2048x128 : Shape := ⟨2, ![2048, 128]⟩
abbrev S1x2048x128 : Shape := ⟨3, ![1, 2048, 128]⟩
abbrev S16x128 : Shape := ⟨2, ![16, 128]⟩
abbrev S3x16x128 : Shape := ⟨3, ![3, 16, 128]⟩
abbrev S1x16x128 : Shape := ⟨3, ![1, 16, 128]⟩
abbrev S112x128 : Shape := ⟨2, ![112, 128]⟩
abbrev S1x112x128 : Shape := ⟨3, ![1, 112, 128]⟩
abbrev S16x256 : Shape := ⟨2, ![16, 256]⟩
abbrev S112x256 : Shape := ⟨2, ![112, 256]⟩
abbrev S1 : Shape := ⟨1, ![1]⟩
abbrev S1x1 : Shape := ⟨2, ![1, 1]⟩
abbrev S2048x2176 : Shape := ⟨2, ![2048, 2176]⟩
abbrev S2048x1 : Shape := ⟨2, ![2048, 1]⟩

abbrev nBuf : Space → Nat
  | .hbm => 57
  | .vmem => 21
  | .smem => 0
  | _ => 0

abbrev bufTy : (tb : Table) → Fin (tcTables nBuf tb) → BufTy
  | .hbm, ⟨0, _⟩ => ⟨S8704x6144, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S16, .i32⟩
  | .hbm, ⟨11, _⟩ => ⟨S_, .i32⟩
  | .hbm, ⟨12, _⟩ => ⟨S112, .i32⟩
  | .hbm, ⟨13, _⟩ => ⟨S2176, .i32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S2176, .f32⟩
  | .hbm, ⟨25, _⟩ => ⟨S2176x1, .f32⟩
  | .hbm, ⟨26, _⟩ => ⟨S1x16, .f32⟩
  | .hbm, ⟨27, _⟩ => ⟨S2176x16, .f32⟩
  | .hbm, ⟨28, _⟩ => ⟨S2176x16, .f32⟩
  | .hbm, ⟨29, _⟩ => ⟨S2176x16, .f32⟩
  | .hbm, ⟨30, _⟩ => ⟨S2176x16, .f32⟩
  | .hbm, ⟨31, _⟩ => ⟨S2176x16, .f32⟩
  | .hbm, ⟨32, _⟩ => ⟨S_, .f32⟩
  | .hbm, ⟨33, _⟩ => ⟨S2176x16, .f32⟩
  | .hbm, ⟨34, _⟩ => ⟨S_, .f32⟩
  | .hbm, ⟨35, _⟩ => ⟨S2176x96, .f32⟩
  | .hbm, ⟨36, _⟩ => ⟨S_, .f32⟩
  | .hbm, ⟨37, _⟩ => ⟨S2176x96, .f32⟩
  | .hbm, ⟨38, _⟩ => ⟨S2176x128, .f32⟩
  | .hbm, ⟨39, _⟩ => ⟨S2176x16, .f32⟩
  | .hbm, ⟨40, _⟩ => ⟨S2176x128, .f32⟩
  | .hbm, ⟨41, _⟩ => ⟨S2176x128, .f32⟩
  | .hbm, ⟨42, _⟩ => ⟨S1x2176x128, .f32⟩
  | .hbm, ⟨43, _⟩ => ⟨S1x2176x128, .f32⟩
  | .hbm, ⟨44, _⟩ => ⟨S1x2176x128, .f32⟩
  | .hbm, ⟨45, _⟩ => ⟨S3x2176x128, .f32⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S256, .f32⟩
  | .hbm, ⟨55, _⟩ => ⟨S1x256, .f32⟩
  | .hbm, ⟨56, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S128x256, .bf16⟩
  | .local _ .vmem, ⟨5, _⟩ => ⟨S128x256, .bf16⟩
  | .local _ .vmem, ⟨6, _⟩ => ⟨S2048x256, .bf16⟩
  | .local _ .vmem, ⟨7, _⟩ => ⟨S2048x256, .bf16⟩
  | .local _ .vmem, ⟨8, _⟩ => ⟨S128x256, .bf16⟩
  | .local _ .vmem, ⟨9, _⟩ => ⟨S128x256, .bf16⟩
  | .local _ .vmem, ⟨10, _⟩ => ⟨S3x2048x128, .f32⟩
  | .local _ .vmem, ⟨11, _⟩ => ⟨S3x2176x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x256, .f32⟩
  | .local _ .vmem, ⟨17, _⟩ => ⟨S2048x256, .bf16⟩
  | .local _ .vmem, ⟨18, _⟩ => ⟨S2048x256, .bf16⟩
  | .local _ .vmem, ⟨19, _⟩ => ⟨S2x2176x128, .bf16⟩
  | .local _ .vmem, ⟨20, _⟩ => ⟨S2176x256, .bf16⟩
  | _, _ => ⟨S8704x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S3x2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 1 → Memref sig .tc .vmem S3x2176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Kernel7Ideal.lean ====
variable {F : FTy → Type} [FloatOps F] [Named F]
def κ : String → Option EReal := fun
  | "exp2_scale" => some (((Real.sqrt 128)⁻¹ * (Real.log 2)⁻¹ : ℝ) : EReal)
  | "masked" => some ⊥
  | _ => none
-- ==== Reference7Ideal.lean ====
abbrev S8704x6144 : Shape := ⟨2, ![8704, 6144]⟩
abbrev S1x128 : Shape := ⟨2, ![1, 128]⟩
abbrev S1x256 : Shape := ⟨2, ![1, 256]⟩
abbrev S512x6144 : Shape := ⟨2, ![512, 6144]⟩
abbrev S4x128x6144 : Shape := ⟨3, ![4, 128, 6144]⟩
abbrev S4x16x6144 : Shape := ⟨3, ![4, 16, 6144]⟩
abbrev S8192x6144 : Shape := ⟨2, ![8192, 6144]⟩
abbrev S4x2048x6144 : Shape := ⟨3, ![4, 2048, 6144]⟩
abbrev S4x2064x6144 : Shape := ⟨3, ![4, 2064, 6144]⟩
abbrev S4x2064x2048 : Shape := ⟨3, ![4, 2064, 2048]⟩
abbrev S4x2064x8x2x128 : Shape := ⟨5, ![4, 2064, 8, 2, 128]⟩
abbrev S2x4x8x2064x128 : Shape := ⟨5, ![2, 4, 8, 2064, 128]⟩
abbrev S16 : Shape := ⟨1, ![16]⟩
abbrev S_ : Shape := ⟨0, ![]⟩
abbrev S2064 : Shape := ⟨1, ![2064]⟩
abbrev S2064x1 : Shape := ⟨2, ![2064, 1]⟩
abbrev S1x16 : Shape := ⟨2, ![1, 16]⟩
abbrev S2064x16 : Shape := ⟨2, ![2064, 16]⟩
abbrev S2x4x8x2064x16 : Shape := ⟨5, ![2, 4, 8, 2064, 16]⟩
abbrev S1x1x1x2064x16 : Shape := ⟨5, ![1, 1, 1, 2064, 16]⟩
abbrev S2x4x8x2064x96 : Shape := ⟨5, ![2, 4, 8, 2064, 96]⟩
abbrev S4x2064x8x256 : Shape := ⟨4, ![4, 2064, 8, 256]⟩
abbrev S4x8x2064x256 : Shape := ⟨4, ![4, 8, 2064, 256]⟩
abbrev S128 : Shape := ⟨1, ![128]⟩
abbrev S2x4x8x2064x2064 : Shape := ⟨5, ![2, 4, 8, 2064, 2064]⟩
abbrev S2x4x8x2064 : Shape := ⟨4, ![2, 4, 8, 2064]⟩
abbrev S2x4x8x2064x1 : Shape := ⟨5, ![2, 4, 8, 2064, 1]⟩
abbrev S1x4x8x2064x2064 : Shape := ⟨5, ![1, 4, 8, 2064, 2064]⟩
abbrev S4x8x2064x2064 : Shape := ⟨4, ![4, 8, 2064, 2064]⟩
abbrev S256 : Shape := ⟨1, ![256]⟩
abbrev S4x2064x8 : Shape := ⟨3, ![4, 2064, 8]⟩
abbrev S4x2064x8x1 : Shape := ⟨4, ![4, 2064, 8, 1]⟩
abbrev S1x1x1x256 : Shape := ⟨4, ![1, 1, 1, 256]⟩
abbrev S4x2048x8x256 : Shape := ⟨4, ![4, 2048, 8, 256]⟩
abbrev S8192x2048 : Shape := ⟨2, ![8192, 2048]⟩

abbrev nBuf : Space → Nat
  | .hbm => 162
  | .vmem => 0
  | .smem => 0
  | _ => 0

abbrev hbmTy0_0 (i : Nat) : BufTy := match i % 128 with
  | 0 => ⟨S8704x6144, .bf16⟩
  | 1 => ⟨S1x128, .f32⟩
  | 2 => ⟨S1x128, .f32⟩
  | 3 => ⟨S1x128, .f32⟩
  | 4 => ⟨S1x128, .f32⟩
  | 5 => ⟨S1x256, .f32⟩
  | 6 => ⟨S8704x6144, .f32⟩
  | 7 => ⟨S512x6144, .f32⟩
  | 8 => ⟨S4x128x6144, .f32⟩
  | 9 => ⟨S4x16x6144, .f32⟩
  | 10 => ⟨S8192x6144, .f32⟩
  | 11 => ⟨S4x2048x6144, .f32⟩
  | 12 => ⟨S4x2064x6144, .f32⟩
  | 13 => ⟨S4x2064x2048, .f32⟩
  | 14 => ⟨S4x2064x8x2x128, .f32⟩
  | 15 => ⟨S2x4x8x2064x128, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S2064, .i32⟩
  | 27 => ⟨S2064, .f32⟩
  | 28 => ⟨S2064x1, .f32⟩
  | 29 => ⟨S1x16, .f32⟩
  | 30 => ⟨S2064x16, .f32⟩
  | 31 => ⟨S2064x16, .f32⟩
  | 32 => ⟨S2064x16, .f32⟩
  | 33 => ⟨S2064x16, .f32⟩
  | 34 => ⟨S2064x16, .f32⟩
  | 35 => ⟨S2x4x8x2064x16, .f32⟩
  | 36 => ⟨S2x4x8x2064x16, .f32⟩
  | 37 => ⟨S1x1x1x2064x16, .f32⟩
  | 38 => ⟨S2x4x8x2064x16, .f32⟩
  | 39 => ⟨S2x4x8x2064x16, .f32⟩
  | 40 => ⟨S1x1x1x2064x16, .f32⟩
  | 41 => ⟨S2x4x8x2064x16, .f32⟩
  | 42 => ⟨S2x4x8x2064x16, .f32⟩
  | 43 => ⟨S2x4x8x2064x16, .f32⟩
  | 44 => ⟨S1x1x1x2064x16, .f32⟩
  | 45 => ⟨S2x4x8x2064x16, .f32⟩
  | 46 => ⟨S2x4x8x2064x16, .f32⟩
  | 47 => ⟨S1x1x1x2064x16, .f32⟩
  | 48 => ⟨S2x4x8x2064x16, .f32⟩
  | 49 => ⟨S2x4x8x2064x16, .f32⟩
  | 50 => ⟨S2x4x8x2064x16, .f32⟩
  | 51 => ⟨S2x4x8x2064x96, .f32⟩
  | 52 => ⟨S2x4x8x2064x128, .f32⟩
  | 53 => ⟨S4x2064x2048, .f32⟩
  | 54 => ⟨S4x2064x8x2x128, .f32⟩
  | 55 => ⟨S2x4x8x2064x128, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S2064, .i32⟩
  | 67 => ⟨S2064, .f32⟩
  | 68 => ⟨S2064x1, .f32⟩
  | 69 => ⟨S1x16, .f32⟩
  | 70 => ⟨S2064x16, .f32⟩
  | 71 => ⟨S2064x16, .f32⟩
  | 72 => ⟨S2064x16, .f32⟩
  | 73 => ⟨S2064x16, .f32⟩
  | 74 => ⟨S2064x16, .f32⟩
  | 75 => ⟨S2x4x8x2064x16, .f32⟩
  | 76 => ⟨S2x4x8x2064x16, .f32⟩
  | 77 => ⟨S1x1x1x2064x16, .f32⟩
  | 78 => ⟨S2x4x8x2064x16, .f32⟩
  | 79 => ⟨S2x4x8x2064x16, .f32⟩
  | 80 => ⟨S1x1x1x2064x16, .f32⟩
  | 81 => ⟨S2x4x8x2064x16, .f32⟩
  | 82 => ⟨S2x4x8x2064x16, .f32⟩
  | 83 => ⟨S2x4x8x2064x16, .f32⟩
  | 84 => ⟨S1x1x1x2064x16, .f32⟩
  | 85 => ⟨S2x4x8x2064x16, .f32⟩
  | 86 => ⟨S2x4x8x2064x16, .f32⟩
  | 87 => ⟨S1x1x1x2064x16, .f32⟩
  | 88 => ⟨S2x4x8x2064x16, .f32⟩
  | 89 => ⟨S2x4x8x2064x16, .f32⟩
  | 90 => ⟨S2x4x8x2064x16, .f32⟩
  | 91 => ⟨S2x4x8x2064x96, .f32⟩
  | 92 => ⟨S2x4x8x2064x128, .f32⟩
  | 93 => ⟨S4x2064x2048, .f32⟩
  | 94 => ⟨S4x2064x8x256, .f32⟩
  | 95 => ⟨S4x8x2064x256, .f32⟩
  | 96 => ⟨S128, .f32⟩
  | 97 => ⟨S128, .f32⟩
  | 98 => ⟨S128, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S2x4x8x2064x2064, .f32⟩
  | 112 => ⟨S_, .f32⟩
  | 113 => ⟨S_, .f32⟩
  | 114 => ⟨S2x4x8x2064x2064, .f32⟩
  | 115 => ⟨S2x4x8x2064x2064, .f32⟩
  | 116 => ⟨S_, .f32⟩
  | 117 => ⟨S2x4x8x2064, .f32⟩
  | 118 => ⟨S_, .f32⟩
  | 119 => ⟨S2x4x8x2064, .f32⟩
  | 120 => ⟨S2x4x8x2064, .f32⟩
  | 121 => ⟨S2x4x8x2064x1, .f32⟩
  | 122 => ⟨S2x4x8x2064x2064, .f32⟩
  | 123 => ⟨S2x4x8x2064x2064, .f32⟩
  | 124 => ⟨S2x4x8x2064x2064, .f32⟩
  | 125 => ⟨S_, .f32⟩
  | 126 => ⟨S2x4x8x2064, .f32⟩
  | 127 => ⟨S2x4x8x2064x1, .f32⟩
  | _ => ⟨S8704x6144, .bf16⟩

abbrev hbmTy0_1 (i : Nat) : BufTy := match i % 128 with
  | 0 => ⟨S2x4x8x2064x2064, .f32⟩
  | 1 => ⟨S2x4x8x2064x2064, .f32⟩
  | 2 => ⟨S1x4x8x2064x2064, .f32⟩
  | 3 => ⟨S4x8x2064x2064, .f32⟩
  | 4 => ⟨S1x4x8x2064x2064, .f32⟩
  | 5 => ⟨S4x8x2064x2064, .f32⟩
  | 6 => ⟨S4x8x2064x2064, .f32⟩
  | 7 => ⟨S4x8x2064x2064, .f32⟩
  | 8 => ⟨S4x8x2064x2064, .f32⟩
  | 9 => ⟨S4x8x2064x256, .f32⟩
  | 10 => ⟨S4x2064x8x256, .f32⟩
  | 11 => ⟨S256, .f32⟩
  | 12 => ⟨S4x2064x8x256, .f32⟩
  | 13 => ⟨S_, .f32⟩
  | 14 => ⟨S4x2064x8, .f32⟩
  | 15 => ⟨S4x2064x8x1, .f32⟩
  | 16 => ⟨S_, .f32⟩
  | 17 => ⟨S4x2064x8x1, .f32⟩
  | 18 => ⟨S4x2064x8x1, .f32⟩
  | 19 => ⟨S_, .f32⟩
  | 20 => ⟨S4x2064x8x1, .f32⟩
  | 21 => ⟨S4x2064x8x1, .f32⟩
  | 22 => ⟨S4x2064x8x1, .f32⟩
  | 23 => ⟨S4x2064x8x256, .f32⟩
  | 24 => ⟨S4x2064x8x256, .f32⟩
  | 25 => ⟨S1x1x1x256, .f32⟩
  | 26 => ⟨S4x2064x8x256, .f32⟩
  | 27 => ⟨S4x2064x8x256, .f32⟩
  | 28 => ⟨S_, .f32⟩
  | 29 => ⟨S4x2064x8x256, .f32⟩
  | 30 => ⟨S4x2064x8x256, .f32⟩
  | 31 => ⟨S4x2048x8x256, .f32⟩
  | 32 => ⟨S8192x2048, .f32⟩
  | 33 => ⟨S8192x2048, .bf16⟩
  | _ => ⟨S8704x6144, .bf16⟩

abbrev hbmTy (i : Nat) : BufTy := match i / 128 with
  | 0 => hbmTy0_0 i
  | 1 => hbmTy0_1 i
  | _ => ⟨S8704x6144, .bf16⟩

abbrev bufTy : (tb : Table) → Fin (tcTables nBuf tb) → BufTy
  | .hbm, ⟨i, _⟩ => hbmTy i
  | _, _ => ⟨S8704x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_5 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_6 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_7 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_9 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_11 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_12 : Ref sig .tc := ⟨.hbm, 141, rfl⟩
abbrev main_v122 : Ref sig .tc := ⟨.hbm, 142, rfl⟩
abbrev main_v123 : Ref sig .tc := ⟨.hbm, 143, rfl⟩
abbrev main_cst_13 : Ref sig .tc := ⟨.hbm, 144, rfl⟩
abbrev main_v124 : Ref sig .tc := ⟨.hbm, 145, rfl⟩
abbrev main_v125 : Ref sig .tc := ⟨.hbm, 146, rfl⟩
abbrev main_cst_14 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_15 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩

abbrev nD : Nat := 1
abbrev τ : Topo := Topo.v7x

variable {F : FTy → Type} [FloatOps F]
-- ==== Kernel8.lean ====
abbrev S2048x8192 : Shape := ⟨2, ![2048, 8192]⟩
abbrev S16384x2048 : Shape := ⟨2, ![16384, 2048]⟩
abbrev S32x2048x512 : Shape := ⟨3, ![32, 2048, 512]⟩
abbrev S8x128x8192 : Shape := ⟨3, ![8, 128, 8192]⟩
abbrev S8192x2048 : Shape := ⟨2, ![8192, 2048]⟩
abbrev S2048 : Shape := ⟨1, ![2048]⟩
abbrev S1x2048 : Shape := ⟨2, ![1, 2048]⟩
abbrev S2048x512 : Shape := ⟨2, ![2048, 512]⟩
abbrev S1024x2048 : Shape := ⟨2, ![1024, 2048]⟩
abbrev S2x2048x512 : Shape := ⟨3, ![2, 2048, 512]⟩
abbrev S8x128x512 : Shape := ⟨3, ![8, 128, 512]⟩
abbrev S512x2048 : Shape := ⟨2, ![512, 2048]⟩
abbrev S1024x512 : Shape := ⟨2, ![1024, 512]⟩
abbrev S1x1x512 : Shape := ⟨3, ![1, 1, 512]⟩
abbrev S1x512 : Shape := ⟨2, ![1, 512]⟩
abbrev S16x512 : Shape := ⟨2, ![16, 512]⟩
abbrev S1x16x512 : Shape := ⟨3, ![1, 16, 512]⟩
abbrev S1x2048x512 : Shape := ⟨3, ![1, 2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 21
  | .smem => 0
  | _ => 0

abbrev bufTy : (tb : Table) → Fin (tcTables nBuf tb) → BufTy
  | .hbm, ⟨0, _⟩ => ⟨S2048x8192, .bf16⟩
  | .hbm, ⟨1, _⟩ => ⟨S16384x2048, .bf16⟩
  | .hbm, ⟨2, _⟩ => ⟨S32x2048x512, .bf16⟩
  | .hbm, ⟨3, _⟩ => ⟨S8x128x8192, .bf16⟩
  | .hbm, ⟨4, _⟩ => ⟨S8x128x8192, .f32⟩
  | .hbm, ⟨5, _⟩ => ⟨S8x128x8192, .f32⟩
  | .hbm, ⟨6, _⟩ => ⟨S8x128x8192, .bf16⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S1024x2048, .bf16⟩
  | .local _ .vmem, ⟨3, _⟩ => ⟨S1024x2048, .bf16⟩
  | .local _ .vmem, ⟨4, _⟩ => ⟨S2x2048x512, .bf16⟩
  | .local _ .vmem, ⟨5, _⟩ => ⟨S2x2048x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .bf16⟩
  | .local _ .vmem, ⟨13, _⟩ => ⟨S8x128x512, .bf16⟩
  | .local _ .vmem, ⟨14, _⟩ => ⟨S512x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S2048x512, .f32⟩
  | .local _ .vmem, ⟨19, _⟩ => ⟨S1024x512, .f32⟩
  | .local _ .vmem, ⟨20, _⟩ => ⟨S1024x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_off1 (i : grid0.Coords) (c0_i32_6 : BitVec 32) : Fin 3 → Nat :=
  let c0 : Index := 0#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v15 : Index := Scalar.indexCast v14
  let c0_7 : Index := 0#32
  ![0, v15.toNat, 0]
def k0_off2 (i : grid0.Coords) (c0_i32_6 : BitVec 32) : Fin 3 → Nat :=
  let c1 : Index := 1#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v21 : Index := Scalar.indexCast v14
  let c0_8 : Index := 0#32
  ![1, v21.toNat, 0]
def k0_off3 (i : grid0.Coords) (c0_i32_6 : BitVec 32) : Fin 3 → Nat :=
  let c2 : Index := 2#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v27 : Index := Scalar.indexCast v14
  let c0_9 : Index := 0#32
  ![2, v27.toNat, 0]
def k0_off4 (i : grid0.Coords) (c0_i32_6 : BitVec 32) : Fin 3 → Nat :=
  let c3 : Index := 3#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v33 : Index := Scalar.indexCast v14
  let c0_10 : Index := 0#32
  ![3, v33.toNat, 0]
def k0_off5 (i : grid0.Coords) (c0_i32_6 : BitVec 32) : Fin 3 → Nat :=
  let c4 : Index := 4#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v39 : Index := Scalar.indexCast v14
  let c0_11 : Index := 0#32
  ![4, v39.toNat, 0]
def k0_off6 (i : grid0.Coords) (c0_i32_6 : BitVec 32) : Fin 3 → Nat :=
  let c5 : Index := 5#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v45 : Index := Scalar.indexCast v14
  let c0_12 : Index := 0#32
  ![5, v45.toNat, 0]
def k0_off7 (i : grid0.Coords) (c0_i32_6 : BitVec 32) : Fin 3 → Nat :=
  let c6 : Index := 6#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v51 : Index := Scalar.indexCast v14
  let c0_13 : Index := 0#32
  ![6, v51.toNat, 0]
def k0_off8 (i : grid0.Coords) (c0_i32_6 : BitVec 32) : Fin 3 → Nat :=
  let c7 : Index := 7#32
  let arg1 : BitVec 32 := BitVec.ofNat 32 (i 1).val
  let c1_i32 : BitVec 32 := 1#32
  let v12 : BitVec 32 := Scalar.subi arg1 c1_i32
  let c8_i32 : BitVec 32 := 8#32
  let v13 : BitVec 32 := Scalar.muli v12 c8_i32
  let v14 : BitVec 32 := Scalar.addi v13 c0_i32_6
  let v57 : Index := Scalar.indexCast v14
  let c0_14 : Index := 0#32
  ![7, v57.toNat, 0]
def k0_cond4 (i : grid0.Coords) : BitVec 1 :=
  let arg1 : BitVec 32 := BitVec.ofNat 32 (i 1).val
  let c16_i32_4 : BitVec 32 := 16#32
  let v9 : BitVec 1 := Scalar.cmpi .eq arg1 c16_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel8Ideal.lean ====
variable {F : FTy → Type} [FloatOps F] [Named F]
def κ : String → Option EReal := fun
  | "inv_sqrt2" => some (((Real.sqrt 2)⁻¹ : ℝ) : EReal)
  | _ => none
-- ==== Proof.Hand.InProjGla.lean ====
/- Hand-written, untrusted: what the GLA projection's call leaves in its two result arrays, over the extended reals. -/
module

public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InProjGla

open Cert.KernelIdeal Cert.KernelIdeal.Gen

variable (m : (ℓ : Loc nD τ sig) → Buf (Elt Ideal) ℓ)

/-- The weight window's element offsets and the other windows' block indices at every grid point. -/
theorem idx : ∀ t : Fin cfg0.N, win0_0.index t = ![t.val % 17, 0] ∧ win0_1.index t = ![2048 * (t.val / 17), 0]
    ∧ win0_2.index t = ![min t.val 31, 0] ∧ win0_3.index t = ![t.val % 17, t.val / 17] ∧ win0_4.index t = ![min t.val 31, 0, 0] :=
  (by decide +kernel : ∀ t : Fin grid0.N, _)

/-- An index of the weight block lies at the window's element offset plus itself. -/
theorem emb1 (t : Fin cfg0.N) (z : S2048x2048.Idx) (a : Fin 2) :
    ((((View.whole main_v2).slice (win0_1.rect t)).emb z a : Fin _) : ℕ) = win0_1.index t a + (z a : ℕ) := by
  show ((win0_1.rect t).emb z a : ℕ) = _
  rw [Pipeline.Window.rect_emb_val_off]

open Cert.ReferenceIdeal.Read in
/-- The projection's array after the run is the reference's: rows times the first 4096 weight columns. -/
theorem final3 (c : Dev nD) : (dats m 0 c).arrAt 3 cfg0.N
    = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay1, val_main_v4, val_main_v3, val_main_v2, val_main_v1, val_main_v0]
  blk_point [iblk, V, idx t]
  · exact (emb1 t _ 1).trans (by rw [(idx t).2.1]; show 0 + (k : ℕ) = k; omega)
  · exact (emb1 t _ 0).trans (by rw [(idx t).2.1]; show 2048 * ((t : ℕ) / 17) + (y 1 : ℕ) = _; omega)

open Cert.ReferenceIdeal.Read in
/-- The transposed expert table after the run is the reference's. -/
theorem final4 (c : Dev nD) : (dats m 0 c).arrAt 4 cfg0.N
    = val_main_v8 (F := Ideal) (m ((c : Thread nD τ).loc main_arg2)) := by
  refine (dats m 0 c).arrAt_eq_of_covers 4 _ (by decide +kernel) fun t _ y => ?_
  blk_simp
  rw [after0_4]; frame_out
  pointwise [k0_pay2, val_main_v8, val_main_v7, val_main_v6, val_main_v5]
  blk_point [iblk, V, idx t]

end Cert.Proof.InProjGla
-- ==== Proof.Hand.InProjDiff.lean ====
/- Hand-written, untrusted: what the differential projections' call leaves in its result arrays, over the extended reals. -/
module

public import proofs.«01_k».proof.Proof.Gen.Kernel2Ideal.Frame
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InProjDiff

open Cert.Kernel2Ideal Cert.Kernel2Ideal.Gen Cert.Reference2Ideal.Read

variable (m : (ℓ : Loc nD τ sig) → Buf (Elt Ideal) ℓ)

/-- The weight window's element offset and the other windows' block indices at every grid point. -/
theorem idx : ∀ t : Fin cfg0.N, win0_0.index t = ![t.val % 17, 0] ∧ win0_1.index t = ![6176 + 2048 * (t.val / 17), 0]
    ∧ win0_2.index t = ![min t.val 31, 0] ∧ win0_3.index t = ![t.val % 17, t.val / 17] ∧ win0_4.index t = ![min t.val 31, 0] :=
  (by decide +kernel : ∀ t : Fin grid0.N, _)

/-- The projection's array after the run is the reference's: rows times weight columns 6176 to 12319. -/
theorem final3 (c : Dev nD) : (dats m 0 c).arrAt 3 cfg0.N
    = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay1, val_main_v4, val_main_v3, val_main_v2, val_main_v1, val_main_v0]
  blk_point [iblk, V, idx t]
  · exact (win0_1.rect_emb_val_off t _ 1).trans (by rw [(idx t).2.1]; show 0 + (k : ℕ) = k; omega)
  · exact (win0_1.rect_emb_val_off t _ 0).trans (by rw [(idx t).2.1]; show 6176 + 2048 * ((t : ℕ) / 17) + (y 1 : ℕ) = _; omega)

/-- The copied expert table after the run is the reference's. -/
theorem final4 (c : Dev nD) : (dats m 0 c).arrAt 4 cfg0.N
    = val_main_v6 (F := Ideal) (m ((c : Thread nD τ).loc main_arg2)) := by
  refine (dats m 0 c).arrAt_eq_of_covers 4 _ (by decide +kernel) fun t _ y => ?_
  blk_simp
  rw [after0_4]; frame_out
  pointwise [k0_pay2, val_main_v6, val_main_v5]
  blk_point [iblk, V, idx t]

end Cert.Proof.InProjDiff

end
-- ==== Proof.Hand.GateGla.lean ====
/- Hand-written, untrusted: what the GLA gate's call leaves in its result array, over the extended reals. -/
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.GateGla

open Cert.Kernel3Ideal Cert.Kernel3Ideal.Gen Cert.Reference3Ideal.Read

variable (m : (ℓ : Loc nD τ sig) → Buf (Elt Ideal) ℓ)

/-- The weight window's element offset and the other windows' block indices at every grid point. -/
theorem idx : ∀ t : Fin cfg0.N, win0_0.index t = ![t.val % 16, 0] ∧ win0_1.index t = ![4096 + 2048 * (t.val / 16), 0]
    ∧ win0_2.index t = ![t.val % 16, t.val / 16] :=
  (by decide +kernel : ∀ t : Fin grid0.N, _)

/-- The gate's array after the run is the reference's: the tokens' rows times weight columns 4096 to 6143. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v1, val_main_v0]
  blk_point [iblk, V, idx t]
  · exact (win0_1.rect_emb_val_off t _ 1).trans (by rw [(idx t).2.1]; show 0 + (k : ℕ) = k; omega)
  · exact (win0_1.rect_emb_val_off t _ 0).trans (by rw [(idx t).2.1]; show 4096 + 2048 * ((t : ℕ) / 16) + (y 1 : ℕ) = _; omega)

end Cert.Proof.GateGla

end
-- ==== Proof.Hand.GateMerge.lean ====
/- Hand-written, untrusted: what the merge gates' call leaves in its result array, over the extended reals. -/
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.GateMerge

open Cert.Kernel4Ideal Cert.Kernel4Ideal.Gen Cert.Reference4Ideal.Read

variable (m : (ℓ : Loc nD τ sig) → Buf (Elt Ideal) ℓ)

/-- The weight window's element offset and the other windows' block indices at every grid point. -/
theorem idx : ∀ t : Fin cfg0.N, win0_0.index t = ![t.val % 16, 0] ∧ win0_1.index t = ![12320 + 2048 * (t.val / 16), 0]
    ∧ win0_2.index t = ![t.val % 16, t.val / 16] :=
  (by decide +kernel : ∀ t : Fin grid0.N, _)

/-- The gates' array after the run is the reference's: the tokens' rows times weight columns 12320 to 16415. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v1, val_main_v0]
  blk_point [iblk, V, idx t]
  · exact (win0_1.rect_emb_val_off t _ 1).trans (by rw [(idx t).2.1]; show 0 + (k : ℕ) = k; omega)
  · exact (win0_1.rect_emb_val_off t _ 0).trans (by rw [(idx t).2.1]; show 12320 + 2048 * ((t : ℕ) / 16) + (y 1 : ℕ) = _; omega)

end Cert.Proof.GateMerge

end
-- ==== Proof.Hand.Merge.lean ====
/- Hand-written, untrusted: what the merge call leaves in its three result arrays, over the extended reals. -/
module

public import proofs.«01_k».proof.Proof.Gen.Kernel5Ideal.Frame
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Merge

open Cert.Kernel5Ideal Cert.Kernel5Ideal.Gen Cert.Reference5Ideal.Read

variable (m : (ℓ : Loc nD τ sig) → Buf (Elt Ideal) ℓ)

/-- Every window's block indices at every grid point. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![0, t.val] :=
  (by decide +kernel : ∀ t : Fin grid0.N, _)

/-! What each window's block holds, entry by entry, in terms of the arguments. -/

theorem blk0 (c : Dev nD) (t : Fin cfg0.N) (r : Fin 256) (k : Fin 2048) (h : t.val * 256 + r.val < 8192) :
    iblk m c 0 t (ix2 r k) = m ((c : Thread nD τ).loc main_arg0) (ix2 ⟨t.val * 256 + r.val, h⟩ k) := by
  blk_ext! [iblk, V, idx t]

theorem blk1 (c : Dev nD) (t : Fin cfg0.N) (r : Fin 256) (k : Fin 2048) (h : t.val * 256 + r.val < 8192) :
    iblk m c 1 t (ix2 r k) = m ((c : Thread nD τ).loc main_arg1) (ix2 ⟨t.val * 256 + r.val, h⟩ k) := by
  blk_ext! [iblk, V, idx t]

theorem blk2 (c : Dev nD) (t : Fin cfg0.N) (r : Fin 256) (k : Fin 2048) (h : t.val * 256 + r.val < 8192)
    (h' : k.val < 4096) :
    iblk m c 2 t (ix2 r k) = m ((c : Thread nD τ).loc main_arg2) (ix2 ⟨t.val * 256 + r.val, h⟩ ⟨k.val, h'⟩) := by
  blk_ext! [iblk, V, idx t]

theorem blk3 (c : Dev nD) (t : Fin cfg0.N) (r : Fin 256) (k : Fin 2048) (h : t.val * 256 + r.val < 8192)
    (h' : 2048 + k.val < 4096) :
    iblk m c 3 t (ix2 r k) = m ((c : Thread nD τ).loc main_arg2) (ix2 ⟨t.val * 256 + r.val, h⟩ ⟨2048 + k.val, h'⟩) := by
  blk_ext! [iblk, V, idx t]

theorem blk4 (c : Dev nD) (t : Fin cfg0.N) (r : Fin 256) (k : Fin 2048) (h : (t.val * 256 + r.val) / 2048 < 4) :
    iblk m c 4 t (ix2 r k) = m ((c : Thread nD τ).loc main_arg3)
      (ix3 ⟨(t.val * 256 + r.val) / 2048, h⟩ ⟨(t.val * 256 + r.val) % 2048, Nat.mod_lt _ (by decide)⟩ k) := by
  blk_simp [iblk, idx t]
  entry_read
  pointwise
  refine congrArg (m ((c : Thread nD τ).loc main_arg3)) ?_
  blk_ext [idx t]

theorem blk5 (c : Dev nD) (t : Fin cfg0.N) (r k : Fin 2048) :
    iblk m c 5 t (ix2 r k) = m ((c : Thread nD τ).loc main_arg4) (ix3 0 r k) := by
  blk_simp [iblk, idx t]
  entry_read
  pointwise
  refine congrArg (m ((c : Thread nD τ).loc main_arg4)) ?_
  blk_ext [idx t]

theorem blk6 (c : Dev nD) (t : Fin cfg0.N) (r k : Fin 2048) :
    iblk m c 6 t (ix2 r k) = m ((c : Thread nD τ).loc main_arg5) (ix3 0 r k) := by
  blk_simp [iblk, idx t]
  entry_read
  pointwise
  refine congrArg (m ((c : Thread nD τ).loc main_arg5)) ?_
  blk_ext [idx t]

theorem blk7 (c : Dev nD) (t : Fin cfg0.N) (r k : Fin 2048) :
    iblk m c 7 t (ix2 r k) = m ((c : Thread nD τ).loc main_arg6) (ix3 0 r k) := by
  blk_simp [iblk, idx t]
  entry_read
  pointwise
  refine congrArg (m ((c : Thread nD τ).loc main_arg6)) ?_
  blk_ext [idx t]

theorem blk8 (c : Dev nD) (t : Fin cfg0.N) (k : Fin 2048) :
    iblk m c 8 t (ix2 0 k) = m ((c : Thread nD τ).loc main_arg7) (ix2 0 k) := by
  blk_simp [iblk, idx t]
  entry_read
  pointwise
  refine congrArg (m ((c : Thread nD τ).loc main_arg7)) ?_
  blk_ext [idx t]

/-- A row of the grid point's block is a row of the whole array. -/
theorem row_lt (t : Fin cfg0.N) (r : Fin 256) : t.val * 256 + r.val < 8192 := by
  have h : t.val < 32 := t.isLt
  omega

/-- The residual sum a grid point computes, at a row and a column, is the reference's. -/
theorem sum_at (c : Dev nD) (t : Fin cfg0.N) (r : Fin 256) (k : Fin 2048) :
    k0_pay4 (F := Ideal) (iblk m c 2 t) (iblk m c 0 t) (iblk m c 5 t) (iblk m c 3 t) (iblk m c 1 t) (iblk m c 6 t) (iblk m c 4 t)
      (iblk m c 7 t) (ix2 r k)
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val * 256 + r.val, row_lt t r⟩ k) := by
  pointwise [k0_pay4, val_main_v26, val_main_v25, val_main_v24, val_main_v23, val_main_v22, val_main_v21, val_main_v20, val_main_v19, val_main_v18, val_main_v17, val_main_cst_2, val_main_v16, val_main_v15, val_main_cst_1, val_main_v14, val_main_v13, val_main_v12, val_main_v11, val_main_v10, val_main_v9, val_main_v8, val_main_v7, val_main_cst_0, val_main_v6, val_main_v5, val_main_cst, val_main_v4, val_main_v3, val_main_v2, val_main_v1, val_main_v0]
  simp only [Ideal.logistic]
  reads_congr
  · exact blk4 m c t r k _
  · exact blk2 m c t r _ _ _
  · exact blk0 m c t r _ _
  · exact blk5 m c t _ _
  · exact blk3 m c t r _ _ _
  · exact blk1 m c t r _ _
  · exact blk6 m c t _ _
  · exact blk7 m c t _ _

/-- The first result: the residual stream after the merge. -/
theorem final9 (c : Dev nD) : (dats m 0 c).arrAt 9 cfg0.N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  idx_vars y
  refine (sum_at m c t _ _).trans ?_
  exact congrArg _ (by blk_ext [idx t])

/-- The normalised row a grid point computes, at a row and a column, is the reference's. -/
theorem norm_at (c : Dev nD) (t : Fin cfg0.N) (r : Fin 256) (k : Fin 2048) :
    k0_pay1 (F := Ideal) (k0_pay4 (iblk m c 2 t) (iblk m c 0 t) (iblk m c 5 t) (iblk m c 3 t) (iblk m c 1 t) (iblk m c 6 t)
        (iblk m c 4 t) (iblk m c 7 t)) (k0_pay5 (iblk m c 8 t))
      (k0_pay6 (iblk m c 2 t) (iblk m c 0 t) (iblk m c 5 t) (iblk m c 3 t) (iblk m c 1 t) (iblk m c 6 t)
        (iblk m c 4 t) (iblk m c 7 t)) (ix2 r k)
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 256 + r.val, row_lt t r⟩ k) := by
  pointwise [k0_pay1, k0_pay5, k0_pay6, val_main_v40, val_main_v39, val_main_v38, val_main_v37, val_main_v36, val_main_v35, val_main_v34, val_main_v33, val_main_cst_5, val_main_v32, val_main_v31, val_main_cst_4, val_main_v30, val_main_v29, val_main_cst_3, val_main_v28, val_main_v27]
  simp only [sum_at]
  rw [blk8 m c t k]

/-- The second result: the normalised rows. -/
theorem final10 (c : Dev nD) : (dats m 0 c).arrAt 10 cfg0.N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]; frame_out
  idx_vars y
  pointwise [k0_pay2, val_main_v41]
  unfold k0_pay7 k0_pay8 k0_pay9
  frame_out
  refine (norm_at m c t _ _).trans ?_
  exact congrArg _ (by blk_ext [idx t])

/-- The third result: the normalised rows, transposed. -/
theorem final11 (c : Dev nD) : (dats m 0 c).arrAt 11 cfg0.N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]; frame_out
  idx_vars y
  pointwise [k0_pay3, val_main_v43, val_main_v42]
  unfold k0_pay7 k0_pay8 k0_pay9
  frame_out
  refine (norm_at m c t _ _).trans ?_
  exact congrArg _ (by blk_ext [idx t])

end Cert.Proof.Merge

end
-- ==== Proof.Hand.Consts.lean ====
/- Hand-written, untrusted: the float constants the programs spell, as the extended reals they denote. -/
module

public import Idealize.ShloMosaic.PureOps.Ideal

@[expose] public section

noncomputable section

namespace Cert.Proof.Consts

open Idealize.ShloMosaic

/-- The constant `1/16` is exact. -/
theorem c_sixteenth : Ideal.ofBits FTy.f32 0x3D800000#32 = (((1 : ℝ) / 16 : ℝ) : EReal) := by
  simp [Ideal.ofBits, Ideal.ieee, -EReal.coe_mul]; norm_num

/-- The constant `16` is exact. -/
theorem c_sixteen : Ideal.ofBits FTy.f32 0x41800000#32 = ((16 : ℝ) : EReal) := by
  simp [Ideal.ofBits, Ideal.ieee, -EReal.coe_mul]; norm_num

/-- The constant `128` is exact. -/
theorem c_128 : Ideal.ofBits FTy.f32 0x43000000#32 = ((128 : ℝ) : EReal) := by
  simp [Ideal.ofBits, Ideal.ieee, -EReal.coe_mul]; norm_num

/-- The constant `500000` is exact. -/
theorem c_theta : Ideal.ofBits FTy.f32 0x48F42400#32 = ((500000 : ℝ) : EReal) := by
  simp [Ideal.ofBits, Ideal.ieee, -EReal.coe_mul]; norm_num

/-- The constant nearest to `0.2` is a real number. -/
theorem c_fifth : Ideal.ofBits FTy.f32 0x3E4CCCCD#32 = ((13421773 / 67108864 : ℝ) : EReal) := by
  simp [Ideal.ofBits, Ideal.ieee, -EReal.coe_mul]; norm_num

/-- The pattern of negative infinity is the least extended real. -/
theorem c_bot : Ideal.ofBits FTy.f32 0xFF800000#32 = (⊥ : EReal) := by
  simp [Ideal.ofBits, Ideal.ieee]

/-- The pattern of positive infinity is the greatest extended real. -/
theorem c_top : Ideal.ofBits FTy.f32 0x7F800000#32 = (⊤ : EReal) := by
  simp [Ideal.ofBits, Ideal.ieee]

end Cert.Proof.Consts

end
-- ==== Proof.Hand.NormDecay.lean ====
/- Hand-written, untrusted: what the norm and decay call leaves in its three result arrays, over the extended reals. -/
module

public import proofs.«01_k».proof.Proof.Gen.Kernel6Ideal.Frame
public import proofs.«01_k».proof.Proof.Gen.Reference6Ideal.Read
public import proofs.«01_k».proof.Proof.Hand.Consts
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.NormDecay

open Cert.Kernel6Ideal Cert.Kernel6Ideal.Gen Cert.Reference6Ideal.Read

variable (m : (ℓ : Loc nD τ sig) → Buf (Elt Ideal) ℓ)

/-- Every window's block indices at every grid point. -/
theorem idx : ∀ t : Fin cfg0.N, win0_0.index t = ![min t.val 15, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- A row of the grid point's block is a row of the whole array. -/
theorem row_lt (t : Fin cfg0.N) (r : Fin 512) : t.val * 512 + r.val < 8704 := by
  have h : t.val < 17 := t.isLt
  omega

/-- The stretches of host operations before the call, as one list. -/
theorem V_flat (c : Dev nD) (b : Ref sig .tc) : V m c b = StableHlo.after (hostOps0 ++ (hostOps0_1 ++ (hostOps0_2
    ++ (hostOps0_3 ++ (hostOps0_4 ++ (hostOps0_5 ++ hostOps0_6)))))) (fun b => m (c, b)) b := by
  unfold V
  simp only [List.flatten_cons, List.flatten_nil, List.append_nil]

/-- The integer zero is the extended real zero. -/
theorem sitofp_zero (φ : FTy) : (FloatOps.sitofp (F := Ideal) φ (0#32 : BitVec 32) : EReal) = 0 := by
  show (((0#32 : BitVec 32).toInt : ℝ) : EReal) = 0
  simp

/-- The token rows, as the host code passes them. -/
theorem V_tok (c : Dev nD) (r : Fin 8192) (k : Fin 2048) : V m c main_v0 (ix2 r k)
    = m ((c : Thread nD τ).loc main_arg0) (ix3 ⟨r.val / 2048, by omega⟩ ⟨r.val % 2048, by omega⟩ k) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  all_goals rfl

/-- The four blocks of padded meta rows, as the host code passes them. -/
theorem V_meta (c : Dev nD) (r : Fin 512) (k : Fin 2048) : V m c main_v5 (ix2 r k)
    = (if h : r.val % 128 < 112 then 0 else m ((c : Thread nD τ).loc main_arg1) (ix2 ⟨r.val % 128 - 112, by omega⟩ k) : EReal) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  all_goals rfl

/-- The norm's scale, as the host code passes it. -/
theorem V_g (c : Dev nD) (k : Fin 2048) : V m c main_v18 (ix2 0 k) = m ((c : Thread nD τ).loc main_arg2) (ix2 0 k) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  all_goals rfl

/-- The low-rank projection's columns, transposed and padded with zeros. -/
theorem V_wlr (c : Dev nD) (j : Fin 128) (k : Fin 2048) : V m c main_v10 (ix2 j k)
    = (if h : j.val < 32 then m ((c : Thread nD τ).loc main_arg3) (ix3 0 k ⟨6144 + j.val, by omega⟩) else 0 : EReal) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  by_cases h : j.val < 32
  · rw [dif_pos h, dif_pos h]
  · rw [dif_neg h, dif_neg h]; exact sitofp_zero _

/-- The forward gate's second factor, padded with zeros. -/
theorem V_w2f (c : Dev nD) (j : Fin 128) (n : Fin 1024) : V m c main_v13 (ix2 j n)
    = (if h : j.val < 16 then m ((c : Thread nD τ).loc main_arg4) (ix3 0 ⟨j.val, h⟩ n) else 0 : EReal) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  by_cases h : j.val < 16
  · rw [dif_pos h, dif_pos h]
  · rw [dif_neg h, dif_neg h]; exact sitofp_zero _

/-- The backward gate's second factor, padded with zeros on both sides. -/
theorem V_w2b (c : Dev nD) (j : Fin 128) (n : Fin 1024) : V m c main_v16 (ix2 j n)
    = (if h : 16 ≤ j.val ∧ j.val < 32 then m ((c : Thread nD τ).loc main_arg6) (ix3 0 ⟨j.val - 16, by omega⟩ n) else 0 : EReal) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  by_cases h : 16 ≤ j.val ∧ j.val < 32
  · rw [dif_pos h, dif_pos (by omega)]
  · rw [dif_neg h, dif_neg (by omega)]; exact sitofp_zero _

/-- The forward gate's bias. -/
theorem V_bf (c : Dev nD) (n : Fin 1024) : V m c main_v20 (ix2 0 n) = m ((c : Thread nD τ).loc main_arg5) (ix2 0 n) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  all_goals rfl

/-- The backward gate's bias. -/
theorem V_bb (c : Dev nD) (n : Fin 1024) : V m c main_v22 (ix2 0 n) = m ((c : Thread nD τ).loc main_arg7) (ix2 0 n) := by
  rw [V_flat]
  simp only [hostOps0, hostOps0_1, hostOps0_2, hostOps0_3, hostOps0_4, hostOps0_5, hostOps0_6, List.cons_append, List.nil_append]
  entry_read
  try simp -implicitDefEqProofs only [StableHlo.TRef.toBuf, StableHlo.TRef.ofBuf, cast_cast, cast_eq]
  pointwise
  all_goals rfl

/-- A sum whose terms vanish outside `p` consecutive positions is the sum over those positions. -/
theorem sum_window {N p : ℕ} (o : ℕ) (h : o + p ≤ N) (f : Fin N → EReal)
    (hz : ∀ j : Fin N, ¬ (o ≤ j.val ∧ j.val < o + p) → f j = 0) :
    ∑ j, f j = ∑ j : Fin p, f ⟨o + j.val, by omega⟩ := by
  refine (Fintype.sum_of_injective (fun j : Fin p => (⟨o + j.val, by omega⟩ : Fin N)) ?_ _ _ ?_ fun _ => rfl).symm
  · intro a b hab
    have := congrArg Fin.val hab
    ext
    simpa using this
  · intro i hi
    refine hz i fun hc => hi ⟨⟨i.val - o, by omega⟩, ?_⟩
    ext
    show o + (i.val - o) = i.val
    omega

/-- Multiplying by the constant `1/16` is dividing by the constant `16`. -/
theorem sixteenth (x : EReal) : x * Ideal.ofBits FTy.f32 0x3D800000#32 = Ideal.div x (Ideal.ofBits FTy.f32 0x41800000#32) := by
  rw [Consts.c_sixteenth, Consts.c_sixteen, Ideal.div_coe (by norm_num : (16 : ℝ) ≠ 0)]

/-- A token row of a grid point's block is the reference's row. -/
theorem tok_at (c : Dev nD) (t : Fin cfg0.N) (ht : t.val < 16) (r : Fin 512) (k : Fin 2048) :
    iblk m c 0 t (ix2 r k) = val_main_v3 (F := Ideal) (m ((c : Thread nD τ).loc main_arg0)) (m ((c : Thread nD τ).loc main_arg1))
      (ix2 ⟨t.val * 512 + r.val, row_lt t r⟩ k) := by
  have e : iblk m c 0 t (ix2 r k) = V m c main_v0 (ix2 ⟨t.val * 512 + r.val, by omega⟩ k) := by
    have hm : min t.val 15 = t.val := by omega
    show V m c main_v0 _ = _
    exact congrArg _ (by blk_ext [idx t])
  rw [e, V_tok]
  pointwise [val_main_v3, val_main_v2]
  rw [dif_pos (by omega)]

/-- A row of the last grid point's block, a padded meta row, is the reference's row. -/
theorem meta_at (c : Dev nD) (t : Fin cfg0.N) (ht : ¬ t.val < 16) (r : Fin 512) (k : Fin 2048) :
    iblk m c 1 t (ix2 r k) = val_main_v3 (F := Ideal) (m ((c : Thread nD τ).loc main_arg0)) (m ((c : Thread nD τ).loc main_arg1))
      (ix2 ⟨t.val * 512 + r.val, row_lt t r⟩ k) := by
  have ht' : t.val = 16 := by
    have : t.val < 17 := t.isLt
    omega
  have e : iblk m c 1 t (ix2 r k) = V m c main_v5 (ix2 r k) := by
    show V m c main_v5 _ = _
    exact congrArg _ (by blk_ext [idx t])
  rw [e, V_meta]
  pointwise [val_main_v3, val_main_v1, val_main_v0, val_main_cst]
  have hr := r.isLt
  split_ifs <;> first
    | (exfalso; omega)
    | exact (rfl : (0 : EReal) = 0)
    | exact congrArg (fun i : Fin 16 => m ((c : Thread nD τ).loc main_arg1) (ix2 i k)) (Fin.ext (by show _ - _ = _ - _; omega))

/-- The scale's block is the argument. -/
theorem g_at (c : Dev nD) (t : Fin cfg0.N) (k : Fin 2048) :
    iblk m c 2 t (ix2 0 k) = m ((c : Thread nD τ).loc main_arg2) (ix2 0 k) := by
  refine Eq.trans ?_ (V_g m c k)
  show V m c main_v18 _ = _
  exact congrArg _ (by blk_ext [idx t])

/-- The normalised row computed from a row `x` that is the reference's is the reference's normalised row. -/
theorem norm_tok (c : Dev nD) (t : Fin cfg0.N) (x : FVec Ideal S512x2048 .f32)
    (hx : ∀ r k, x (ix2 r k) = val_main_v3 (F := Ideal) (m ((c : Thread nD τ).loc main_arg0)) (m ((c : Thread nD τ).loc main_arg1)) (ix2 ⟨t.val * 512 + r.val, row_lt t r⟩ k))
    (r : Fin 512) (k : Fin 2048) :
    k0_pay3 (F := Ideal) x (iblk m c 2 t) (ix2 r k)
    = val_main_v17 (F := Ideal) (m ((c : Thread nD τ).loc main_arg0)) (m ((c : Thread nD τ).loc main_arg1)) (m ((c : Thread nD τ).loc main_arg2)) (ix2 ⟨t.val * 512 + r.val, row_lt t r⟩ k) := by
  pointwise [k0_pay3, val_main_v17, val_main_v16, val_main_v15, val_main_v14, val_main_v13, val_main_v12, val_main_v11, val_main_v10, val_main_cst_2, val_main_v9, val_main_v8, val_main_cst_1, val_main_v7, val_main_v6, val_main_cst_0, val_main_v5, val_main_v4]
  simp only [hx]
  rw [g_at m c t k]

/-- The low-rank projection's block, entry by entry. -/
theorem wlr_at (c : Dev nD) (t : Fin cfg0.N) (j : Fin 128) (k : Fin 2048) : iblk m c 3 t (ix2 j k)
    = (if h : j.val < 32 then m ((c : Thread nD τ).loc main_arg3) (ix3 0 k ⟨6144 + j.val, by omega⟩) else 0 : EReal) := by
  refine Eq.trans ?_ (V_wlr m c j k)
  show V m c main_v10 _ = _
  exact congrArg _ (by blk_ext [idx t])

/-- The forward gate's second factor's block, entry by entry. -/
theorem w2f_at (c : Dev nD) (t : Fin cfg0.N) (j : Fin 128) (n : Fin 1024) : iblk m c 4 t (ix2 j n)
    = (if h : j.val < 16 then m ((c : Thread nD τ).loc main_arg4) (ix3 0 ⟨j.val, h⟩ n) else 0 : EReal) := by
  refine Eq.trans ?_ (V_w2f m c j n)
  show V m c main_v13 _ = _
  exact congrArg _ (by blk_ext [idx t])

/-- The backward gate's second factor's block, entry by entry. -/
theorem w2b_at (c : Dev nD) (t : Fin cfg0.N) (j : Fin 128) (n : Fin 1024) : iblk m c 5 t (ix2 j n)
    = (if h : 16 ≤ j.val ∧ j.val < 32 then m ((c : Thread nD τ).loc main_arg6) (ix3 0 ⟨j.val - 16, by omega⟩ n) else 0 : EReal) := by
  refine Eq.trans ?_ (V_w2b m c j n)
  show V m c main_v16 _ = _
  exact congrArg _ (by blk_ext [idx t])

/-- The forward gate's bias's block, entry by entry. -/
theorem bf_at (c : Dev nD) (t : Fin cfg0.N) (n : Fin 1024) :
    iblk m c 6 t (ix2 0 n) = m ((c : Thread nD τ).loc main_arg5) (ix2 0 n) := by
  refine Eq.trans ?_ (V_bf m c n)
  show V m c main_v20 _ = _
  exact congrArg _ (by blk_ext [idx t])

/-- The backward gate's bias's block, entry by entry. -/
theorem bb_at (c : Dev nD) (t : Fin cfg0.N) (n : Fin 1024) :
    iblk m c 7 t (ix2 0 n) = m ((c : Thread nD τ).loc main_arg7) (ix2 0 n) := by
  refine Eq.trans ?_ (V_bb m c n)
  show V m c main_v22 _ = _
  exact congrArg _ (by blk_ext [idx t])

/-- The forward gate before the log-sigmoid, negated, from rows that are the reference's normalised rows. -/
theorem zf_at (c : Dev nD) (t : Fin cfg0.N) (x : FVec Ideal S512x2048 .bf16)
    (hx : ∀ r k, x (ix2 r k) = val_main_v17 (F := Ideal) (m ((c : Thread nD τ).loc main_arg0)) (m ((c : Thread nD τ).loc main_arg1)) (m ((c : Thread nD τ).loc main_arg2)) (ix2 ⟨t.val * 512 + r.val, row_lt t r⟩ k))
    (r : Fin 512) (n : Fin 1024) :
    k0_pay7 (F := Ideal) x (iblk m c 3 t) (iblk m c 4 t) (iblk m c 6 t) (ix2 r n)
    = - val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, row_lt t r⟩ n) := by
  pointwise [k0_pay7, k0_pay5, val_main_v28, val_main_v27, val_main_v26, val_main_v25, val_main_v24, val_main_v23, val_main_v22, val_main_v21, val_main_v20, val_main_v19, val_main_v18]
  simp only [hx, wlr_at, w2f_at, bf_at]
  rw [zero_sub, sum_window 0 (p := 16) (by omega) _ fun j hj => by rw [dif_neg (by omega), mul_zero]]
  refine congrArg (fun z : EReal => -(z + m ((c : Thread nD τ).loc main_arg5) (ix2 0 n))) (Finset.sum_congr rfl fun j _ => ?_)
  have hj := j.isLt
  rw [dif_pos (by show 0 + j.val < 16; omega)]
  refine congrArg₂ (· * ·) (Finset.sum_congr rfl fun k _ => ?_) ?_
  · rw [dif_pos (by show 0 + j.val < 32; omega)]
    exact congrArg (_ * ·) (congrArg (fun i => m ((c : Thread nD τ).loc main_arg3) (ix3 0 k i)) (Fin.ext (by show 6144 + (0 + j.val) = 6144 + j.val; omega)))
  · exact congrArg (fun i => m ((c : Thread nD τ).loc main_arg4) (ix3 0 i n)) (Fin.ext (by show 0 + j.val = j.val; omega))

/-- The backward gate before the log-sigmoid, from rows that are the reference's normalised rows. -/
theorem zb_at (c : Dev nD) (t : Fin cfg0.N) (x : FVec Ideal S512x2048 .bf16)
    (hx : ∀ r k, x (ix2 r k) = val_main_v17 (F := Ideal) (m ((c : Thread nD τ).loc main_arg0)) (m ((c : Thread nD τ).loc main_arg1)) (m ((c : Thread nD τ).loc main_arg2)) (ix2 ⟨t.val * 512 + r.val, row_lt t r⟩ k))
    (r : Fin 512) (n : Fin 1024) :
    k0_pay6 (F := Ideal) x (iblk m c 3 t) (iblk m c 5 t) (iblk m c 7 t) (ix2 r n)
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (ix2 ⟨t.val * 512 + r.val, row_lt t r⟩ n) := by
  pointwise [k0_pay6, k0_pay5, val_main_v22, val_main_v21, val_main_v20, val_main_v19, val_main_v18, val_main_v37, val_main_v36, val_main_v35, val_main_v34, val_main_v33, val_main_v32]
  simp only [hx, wlr_at, w2b_at, bb_at]
  rw [sum_window 16 (p := 16) (by omega) _ fun j hj => by rw [dif_neg (by omega), mul_zero]]
  refine congrArg (fun z : EReal => z + m ((c : Thread nD τ).loc main_arg7) (ix2 0 n)) (Finset.sum_congr rfl fun j _ => ?_)
  have hj := j.isLt
  rw [dif_pos (by show 16 ≤ 16 + j.val ∧ 16 + j.val < 32; omega)]
  refine congrArg₂ (· * ·) (Finset.sum_congr rfl fun k _ => ?_) ?_
  · rw [dif_pos (by show 16 + j.val < 32; omega)]
  · exact congrArg (fun i => m ((c : Thread nD τ).loc main_arg6) (ix3 0 i n)) (Fin.ext (by show 16 + j.val - 16 = j.val; omega))

/-- The forward log-decay of a grid point's rows. -/
theorem decayF (c : Dev nD) (t : Fin cfg0.N) (x : FVec Ideal S512x2048 .bf16)
    (hx : ∀ r k, x (ix2 r k) = val_main_v17 (F := Ideal) (m ((c : Thread nD τ).loc main_arg0)) (m ((c : Thread nD τ).loc main_arg1)) (m ((c : Thread nD τ).loc main_arg2)) (ix2 ⟨t.val * 512 + r.val, row_lt t r⟩ k))
    (r : Fin 512) (n : Fin 1024) :
    k0_pay1 (F := Ideal) (k0_pay8 x (iblk m c 3 t) (iblk m c 4 t) (iblk m c 6 t)) (k0_pay10 x (iblk m c 3 t) (iblk m c 4 t) (iblk m c 6 t))
      (k0_pay11 x (iblk m c 3 t) (iblk m c 4 t) (iblk m c 6 t)) (k0_pay12 x (iblk m c 3 t) (iblk m c 4 t) (iblk m c 6 t)) (ix2 r n)
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, row_lt t r⟩ n) := by
  pointwise [k0_pay1, k0_pay8, k0_pay9, k0_pay10, k0_pay11, k0_pay12, val_main_v31, val_main_v30, val_main_cst_3, val_main_v29, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  simp only [zf_at m c t x hx]
  simp only [zero_sub]
  exact sixteenth _

/-- The backward log-decay of a grid point's rows. -/
theorem decayB (c : Dev nD) (t : Fin cfg0.N) (x : FVec Ideal S512x2048 .bf16)
    (hx : ∀ r k, x (ix2 r k) = val_main_v17 (F := Ideal) (m ((c : Thread nD τ).loc main_arg0)) (m ((c : Thread nD τ).loc main_arg1)) (m ((c : Thread nD τ).loc main_arg2)) (ix2 ⟨t.val * 512 + r.val, row_lt t r⟩ k))
    (r : Fin 512) (n : Fin 1024) :
    k0_pay2 (F := Ideal) (k0_pay6 x (iblk m c 3 t) (iblk m c 5 t) (iblk m c 7 t)) (ix2 r n)
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (ix2 ⟨t.val * 512 + r.val, row_lt t r⟩ n) := by
  pointwise [k0_pay2, val_main_v40, val_main_v39, val_main_cst_4, val_main_v38, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0]
  simp only [zb_at m c t x hx]
  simp only [zero_sub]
  exact sixteenth _

/-- A grid point is a token point or the last one. -/
theorem last (t : Fin cfg0.N) : (t.val < 16 → ¬ t.val % 17 = 16) ∧ (¬ t.val < 16 → t.val % 17 = 16) := by
  have : t.val < 17 := t.isLt
  omega

/-- The first result: the normalised rows. -/
theorem final8 (c : Dev nD) : (dats m 0 c).arrAt 8 cfg0.N
    = val_main_v41 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  by_cases h : t.val < 16
  · rw [outsAt0_A m c t h ((last t).1 h)]; frame_out
    pointwise [val_main_v41]
    refine (norm_tok m c t _ (tok_at m c t h) _ _).trans ?_
    exact congrArg _ (by blk_ext [idx t])
  · rw [outsAt0_B m c t h ((last t).2 h)]; frame_out
    pointwise [val_main_v41]
    refine (norm_tok m c t _ (meta_at m c t h) _ _).trans ?_
    exact congrArg _ (by blk_ext [idx t])

/-- The second result: the forward log-decays. -/
theorem final9 (c : Dev nD) : (dats m 0 c).arrAt 9 cfg0.N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  idx_vars y
  by_cases h : t.val < 16
  · rw [outsAt0_A m c t h ((last t).1 h)]; frame_out
    refine (decayF m c t _ (norm_tok m c t _ (tok_at m c t h)) _ _).trans ?_
    exact congrArg _ (by blk_ext [idx t])
  · rw [outsAt0_B m c t h ((last t).2 h)]; frame_out
    refine (decayF m c t _ (norm_tok m c t _ (meta_at m c t h)) _ _).trans ?_
    exact congrArg _ (by blk_ext [idx t])

/-- The third result: the backward log-decays. -/
theorem final10 (c : Dev nD) : (dats m 0 c).arrAt 10 cfg0.N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (dats m 0 c).arrAt_eq_of_covers 10 _ (by decide +kernel) fun t _ y => ?_
  blk_simp
  rw [after0_10]
  idx_vars y
  by_cases h : t.val < 16
  · rw [outsAt0_A m c t h ((last t).1 h)]; frame_out
    refine (decayB m c t _ (norm_tok m c t _ (tok_at m c t h)) _ _).trans ?_
    exact congrArg _ (by blk_ext [idx t])
  · rw [outsAt0_B m c t h ((last t).2 h)]; frame_out
    refine (decayB m c t _ (norm_tok m c t _ (meta_at m c t h)) _ _).trans ?_
    exact congrArg _ (by blk_ext [idx t])

/-- The call's run: its three results are the reference's, and its arguments end unchanged. -/
theorem run (g : Dev nD → PrngReg) : θ_run (defs (F := Ideal)) (onTc (τ := τ) (main (F := Ideal))) ⟨m, fun _ => 0, g⟩ (fun r => ∀ c : Dev nD,
    r.2.mem ((c : Thread nD τ).loc main_v23_0) = val_main_v41 (F := Ideal) (m ((c : Thread nD τ).loc main_arg0)) (m ((c : Thread nD τ).loc main_arg1)) (m ((c : Thread nD τ).loc main_arg2))
    ∧ r.2.mem ((c : Thread nD τ).loc main_v23_1) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c : Thread nD τ).loc main_v23_2) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) := by
  run_from (unchanged m g) & (run_main m g)
  · exact final8 m c
  · exact final9 m c
  · exact final10 m c

end Cert.Proof.NormDecay

end
-- ==== Proof.Hand.Softmax.lean ====
/- Hand-written, untrusted: the softmax identities the differential attention needs, over the extended reals. -/
module

public import Idealize.ShloMosaic.PureOps.Ideal

@[expose] public section

noncomputable section

namespace Cert.Proof.Softmax

open Idealize.ShloMosaic

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.exp {x : EReal} (hx : IsR x) : IsR (Ideal.exp x) := by
  obtain ⟨a, rfl⟩ := hx; exact ⟨_, rfl⟩
theorem IsR.sum {n : ℕ} {f : Fin n → EReal} (h : ∀ i, IsR (f i)) : IsR (∑ i, f i) := by
  choose g hg using h
  refine ⟨∑ i, g i, ?_⟩
  rw [Finset.sum_congr rfl fun i _ => hg i]
  exact (map_sum (⟨⟨fun r : ℝ => (r : EReal), rfl⟩, EReal.coe_add⟩ : ℝ →+ EReal) g Finset.univ).symm
/-- What is smaller than the greatest extended real in absolute value is a real number. -/
theorem IsR.of_abs {x : EReal} (h : max x (-x) < ⊤) : IsR x := by
  induction x with
  | bot => simp at h
  | top => simp at h
  | coe r => exact ⟨r, rfl⟩

/-- A sum of reals is the real sum. -/
theorem coe_sum {n : ℕ} (g : Fin n → ℝ) : (∑ i, (g i : EReal)) = ((∑ i, g i : ℝ) : EReal) :=
  (map_sum (⟨⟨fun r : ℝ => (r : EReal), rfl⟩, EReal.coe_add⟩ : ℝ →+ EReal) g Finset.univ).symm

/-- Where the kernel keeps the key that is the `j`-th of the sequence: the tokens first, then the meta rows. -/
def key (j : Fin 2064) : Fin 2176 := if h : j.val < 16 then ⟨2048 + j.val, by omega⟩ else ⟨j.val - 16, by omega⟩

theorem key_val (j : Fin 2064) : (key j).val = if j.val < 16 then 2048 + j.val else j.val - 16 := by
  unfold key; split <;> rfl

theorem key_inj : Function.Injective key := by
  intro a b h
  have h' := congrArg Fin.val h
  rw [key_val, key_val] at h'
  ext
  split_ifs at h' <;> omega

theorem key_surj (k : Fin 2176) (hk : k.val < 2064) : ∃ j, key j = k := by
  by_cases h : k.val < 2048
  · refine ⟨⟨k.val + 16, by omega⟩, Fin.ext ?_⟩
    rw [key_val, if_neg (by show ¬ k.val + 16 < 16; omega)]
    show k.val + 16 - 16 = k.val
    omega
  · refine ⟨⟨k.val - 2048, by omega⟩, Fin.ext ?_⟩
    rw [key_val, if_pos (by show k.val - 2048 < 16; omega)]
    show 2048 + (k.val - 2048) = k.val
    omega

/-- A sum over the kernel's keys that vanishes at the padding is the sum over the sequence. -/
theorem sum_key (f : Fin 2176 → EReal) (h : ∀ k : Fin 2176, 2064 ≤ k.val → f k = 0) : ∑ k, f k = ∑ j, f (key j) := by
  refine (Fintype.sum_of_injective key key_inj _ _ (fun k hk => h k ?_) fun _ => rfl).symm
  by_contra hc
  exact hk (key_surj k (by omega))

/-- The largest of finitely many reals, folded from the least extended real, is one of them. -/
theorem fold_max {n : ℕ} (f : Fin n → EReal) (M : EReal) (hle : ∀ i, f i ≤ M) (i : Fin n) (hi : f i = M) :
    Finset.univ.fold max (⊥ : EReal) f = M := by
  refine le_antisymm ?_ ?_
  · exact Finset.sup_le fun j _ => hle j
  · rw [← hi]; exact Finset.le_sup (f := f) (Finset.mem_univ i)

/-- One softmax, both ways: the powers of two of the shifted scores times `(√128)⁻¹ (log 2)⁻¹`, which vanish at the
    padding, are the exponentials of the scores over `√128`, shifted; and their sum is positive. -/
theorem soft (s : Fin 2064 → ℝ) (S : Fin 2176 → EReal) (hS : ∀ j, S (key j) = (s j : EReal))
    (hP : ∀ k : Fin 2176, 2064 ≤ k.val → S k = ⊥) : ∃ E : Fin 2064 → ℝ, 0 < ∑ j, E j
      ∧ (∀ j, Ideal.exp2 ((S (key j) - Finset.univ.fold max (⊥ : EReal) S) * (((Real.sqrt 128)⁻¹ * (Real.log 2)⁻¹ : ℝ) : EReal)) = (E j : EReal))
      ∧ (∀ k : Fin 2176, 2064 ≤ k.val →
          Ideal.exp2 ((S k - Finset.univ.fold max (⊥ : EReal) S) * (((Real.sqrt 128)⁻¹ * (Real.log 2)⁻¹ : ℝ) : EReal)) = 0)
      ∧ (∀ j, Ideal.exp (Ideal.div (s j : EReal) (Real.sqrt 128 : ℝ)
          - Finset.univ.fold max (⊥ : EReal) fun j => Ideal.div (s j : EReal) (Real.sqrt 128 : ℝ)) = (E j : EReal)) := by
  obtain ⟨j0, -, hj0⟩ := Finset.exists_max_image Finset.univ s ⟨0, Finset.mem_univ _⟩
  have hpos : 0 < Real.sqrt 128 := Real.sqrt_pos.mpr (by norm_num)
  have hlog : 0 < Real.log 2 := Real.log_pos (by norm_num)
  have hc : 0 < (Real.sqrt 128)⁻¹ * (Real.log 2)⁻¹ := mul_pos (inv_pos.mpr hpos) (inv_pos.mpr hlog)
  have hM : Finset.univ.fold max (⊥ : EReal) S = (s j0 : EReal) := by
    refine fold_max S _ (fun k => ?_) (key j0) (hS j0)
    by_cases hk : k.val < 2064
    · obtain ⟨j, rfl⟩ := key_surj k hk
      rw [hS]; exact_mod_cast hj0 j (Finset.mem_univ _)
    · rw [hP k (by omega)]; exact bot_le
  have hdiv : ∀ j, Ideal.div (s j : EReal) (Real.sqrt 128 : ℝ) = ((s j * (1 / Real.sqrt 128) : ℝ) : EReal) := fun j => by
    rw [Ideal.div_coe hpos.ne', EReal.coe_mul]
  have hM' : (Finset.univ.fold max (⊥ : EReal) fun j => Ideal.div (s j : EReal) (Real.sqrt 128 : ℝ))
      = ((s j0 * (1 / Real.sqrt 128) : ℝ) : EReal) := by
    refine fold_max _ _ (fun j => ?_) j0 (hdiv j0)
    rw [hdiv]
    exact_mod_cast mul_le_mul_of_nonneg_right (hj0 j (Finset.mem_univ _)) (by positivity)
  refine ⟨fun j => Real.exp (s j * (1 / Real.sqrt 128) - s j0 * (1 / Real.sqrt 128)), ?_, fun j => ?_, fun k hk => ?_, fun j => ?_⟩
  · exact Finset.sum_pos (fun j _ => Real.exp_pos _) ⟨0, Finset.mem_univ _⟩
  · rw [hM, hS, ← EReal.coe_sub, ← EReal.coe_mul, Ideal.exp2_coe]
    refine congrArg _ ?_
    show (2 : ℝ) ^ (_ : ℝ) = _
    rw [Real.rpow_def_of_pos (by norm_num)]
    congr 1
    field_simp
  · rw [hM, hP k hk, EReal.bot_sub, EReal.bot_mul_coe_of_pos hc, Ideal.exp2_bot]
  · rw [hM', hdiv, ← EReal.coe_sub, Ideal.exp_coe]

/-- The difference of two softmaxes applied to the values: normalised after the product with the values, one map at a
    time, or normalised and combined before it. -/
theorem diff (E0 E1 v : Fin 2064 → ℝ) (l : ℝ) (h0 : 0 < ∑ j, E0 j) (h1 : 0 < ∑ j, E1 j) :
    (∑ j, (E0 j : EReal) * (v j : EReal)) * Ideal.div 1 (∑ j, (E0 j : EReal))
      - (l : EReal) * ((∑ j, (E1 j : EReal) * (v j : EReal)) * Ideal.div 1 (∑ j, (E1 j : EReal)))
    = ∑ j, (Ideal.div (E0 j : EReal) (∑ j, (E0 j : EReal)) - (l : EReal) * Ideal.div (E1 j : EReal) (∑ j, (E1 j : EReal))) * (v j : EReal) := by
  simp only [coe_sum, Ideal.div_coe h0.ne', Ideal.div_coe h1.ne', ← EReal.coe_mul, ← EReal.coe_sub, one_mul]
  refine congrArg _ ?_
  rw [Finset.sum_mul, Finset.sum_mul, Finset.mul_sum, ← Finset.sum_sub_distrib]
  refine Finset.sum_congr rfl fun j _ => ?_
  ring

end Cert.Proof.Softmax

end
-- ==== Proof.Hand.DiffInputs.lean ====
/- Hand-written, untrusted: what the differential attention call finds in its blocks, over the extended reals. -/
module

public import proofs.«01_k».proof.Proof.Gen.Kernel7Ideal.Frame
public import proofs.«01_k».proof.Proof.Gen.Reference7Ideal.Read
public import proofs.«01_k».proof.Proof.Hand.Consts
public import proofs.«01_k».proof.Proof.Hand.Softmax
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DiffAttn

open Cert.Kernel7Ideal Cert.Kernel7Ideal.Gen Cert.Reference7Ideal.Read

variable (m : (ℓ : Loc nD τ sig) → Buf (Elt Ideal) ℓ)

/-- Every window's block indices at every grid point. -/
theorem idx : ∀ t : Fin cfg0.N, win0_0.index t = ![t.val / 8, t.val % 8] ∧ win0_1.index t = ![t.val / 8, 8 + t.val % 8]
    ∧ win0_2.index t = ![64 + t.val / 8, 8 + t.val % 8] ∧ win0_3.index t = ![t.val / 8, 16 + t.val % 8]
    ∧ win0_4.index t = ![64 + t.val / 8, 16 + t.val % 8] ∧ win0_5.index t = ![0, 0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![t.val / 8, t.val % 8] :=
  (by decide +kernel : ∀ t : Fin grid0.N, _)

/-- A grid point is a batch and a head. -/
theorem t_lt (t : Fin cfg0.N) : t.val < 32 := t.isLt

/-- The position whose angles row `r` of the table holds. -/
def pos (r : ℕ) : ℕ := if r < 2048 then r + 16 else r - 2048

/-- The scale of the final norm, as the host code passes it. -/
theorem V_g (c : Dev nD) (k : Fin 256) : V m c main_v41 (ix2 0 k) = m ((c : Thread nD τ).loc main_arg5) (ix2 0 k) := by
  entry_read
  pointwise
  all_goals rfl

theorem V_lq1 (c : Dev nD) (k : Fin 128) : V m c main_v33 (ix2 0 k) = m ((c : Thread nD τ).loc main_arg1) (ix2 0 k) := by
  entry_read
  pointwise
  all_goals rfl

theorem V_lk1 (c : Dev nD) (k : Fin 128) : V m c main_v35 (ix2 0 k) = m ((c : Thread nD τ).loc main_arg2) (ix2 0 k) := by
  entry_read
  pointwise
  all_goals rfl

theorem V_lq2 (c : Dev nD) (k : Fin 128) : V m c main_v37 (ix2 0 k) = m ((c : Thread nD τ).loc main_arg3) (ix2 0 k) := by
  entry_read
  pointwise
  all_goals rfl

theorem V_lk2 (c : Dev nD) (k : Fin 128) : V m c main_v39 (ix2 0 k) = m ((c : Thread nD τ).loc main_arg4) (ix2 0 k) := by
  entry_read
  pointwise
  all_goals rfl

/-- The query block: both maps' queries of a head, row by row. -/
theorem q_at (c : Dev nD) (t : Fin cfg0.N) (r : Fin 2048) (k : Fin 256) : X0_0 m c t (ix2 r k)
    = m ((c : Thread nD τ).loc main_arg0) (ix2 ⟨t.val / 8 * 2048 + r.val, by have := t_lt t; omega⟩ ⟨t.val % 8 * 256 + k.val, by omega⟩) := by
  unfold X0_0 Pipeline.Window.fill
  rw [dif_pos (moved0_0 t _)]
  rw [← V_main_arg0 m c]
  show V m c main_arg0 _ = _
  exact congrArg _ (by blk_ext [idx t])

theorem k_at (c : Dev nD) (t : Fin cfg0.N) (r : Fin 2048) (k : Fin 256) : X0_1 m c t (ix2 r k)
    = m ((c : Thread nD τ).loc main_arg0) (ix2 ⟨t.val / 8 * 2048 + r.val, by have := t_lt t; omega⟩ ⟨2048 + t.val % 8 * 256 + k.val, by omega⟩) := by
  unfold X0_1 Pipeline.Window.fill
  rw [dif_pos (moved0_1 t _)]
  rw [← V_main_arg0 m c]
  show V m c main_arg0 _ = _
  exact congrArg _ (by blk_ext [idx t])

theorem v_at (c : Dev nD) (t : Fin cfg0.N) (r : Fin 2048) (k : Fin 256) : X0_3 m c t (ix2 r k)
    = m ((c : Thread nD τ).loc main_arg0) (ix2 ⟨t.val / 8 * 2048 + r.val, by have := t_lt t; omega⟩ ⟨4096 + t.val % 8 * 256 + k.val, by omega⟩) := by
  unfold X0_3 Pipeline.Window.fill
  rw [dif_pos (moved0_3 t _)]
  rw [← V_main_arg0 m c]
  show V m c main_arg0 _ = _
  exact congrArg _ (by blk_ext [idx t])

theorem ke_at (c : Dev nD) (t : Fin cfg0.N) (r : Fin 128) (k : Fin 256) : iblk m c 2 t (ix2 r k)
    = m ((c : Thread nD τ).loc main_arg0) (ix2 ⟨8192 + t.val / 8 * 128 + r.val, by have := t_lt t; omega⟩ ⟨2048 + t.val % 8 * 256 + k.val, by omega⟩) := by
  rw [← V_main_arg0 m c]
  show V m c main_arg0 _ = _
  exact congrArg _ (by blk_ext [idx t])

theorem ve_at (c : Dev nD) (t : Fin cfg0.N) (r : Fin 128) (k : Fin 256) : iblk m c 4 t (ix2 r k)
    = m ((c : Thread nD τ).loc main_arg0) (ix2 ⟨8192 + t.val / 8 * 128 + r.val, by have := t_lt t; omega⟩ ⟨4096 + t.val % 8 * 256 + k.val, by omega⟩) := by
  rw [← V_main_arg0 m c]
  show V m c main_arg0 _ = _
  exact congrArg _ (by blk_ext [idx t])

/-- The rope table's token rows. -/
theorem t5_at (c : Dev nD) (t : Fin cfg0.N) (a : Fin 3) (r : Fin 2048) (d : Fin 128) :
    X0_5 m c t (ix3 a r d) = V m c main_v31 (ix3 a ⟨r.val, by omega⟩ d) := by
  unfold X0_5 Pipeline.Window.fill
  rw [dif_pos (moved0_5 t _)]
  show V m c main_v31 _ = _
  exact congrArg _ (by blk_ext [idx t])

/-- The rope table. -/
theorem t6_at (c : Dev nD) (t : Fin cfg0.N) (a : Fin 3) (r : Fin 2176) (d : Fin 128) :
    iblk m c 6 t (ix3 a r d) = V m c main_v31 (ix3 a r d) := by
  show V m c main_v31 _ = _
  exact congrArg _ (by blk_ext [idx t])

theorem lq1_at (c : Dev nD) (t : Fin cfg0.N) (k : Fin 128) : iblk m c 7 t (ix2 0 k) = m ((c : Thread nD τ).loc main_arg1) (ix2 0 k) := by
  refine Eq.trans ?_ (V_lq1 m c k)
  show V m c main_v33 _ = _
  exact congrArg _ (by blk_ext [idx t])

theorem lk1_at (c : Dev nD) (t : Fin cfg0.N) (k : Fin 128) : iblk m c 8 t (ix2 0 k) = m ((c : Thread nD τ).loc main_arg2) (ix2 0 k) := by
  refine Eq.trans ?_ (V_lk1 m c k)
  show V m c main_v35 _ = _
  exact congrArg _ (by blk_ext [idx t])

theorem lq2_at (c : Dev nD) (t : Fin cfg0.N) (k : Fin 128) : iblk m c 9 t (ix2 0 k) = m ((c : Thread nD τ).loc main_arg3) (ix2 0 k) := by
  refine Eq.trans ?_ (V_lq2 m c k)
  show V m c main_v37 _ = _
  exact congrArg _ (by blk_ext [idx t])

theorem lk2_at (c : Dev nD) (t : Fin cfg0.N) (k : Fin 128) : iblk m c 10 t (ix2 0 k) = m ((c : Thread nD τ).loc main_arg4) (ix2 0 k) := by
  refine Eq.trans ?_ (V_lk2 m c k)
  show V m c main_v39 _ = _
  exact congrArg _ (by blk_ext [idx t])

/-- The scale of the final norm. -/
theorem g_at (c : Dev nD) (t : Fin cfg0.N) (k : Fin 256) : iblk m c 11 t (ix2 0 k) = m ((c : Thread nD τ).loc main_arg5) (ix2 0 k) := by
  refine Eq.trans ?_ (V_g m c k)
  show V m c main_v41 _ = _
  exact congrArg _ (by blk_ext [idx t])

end Cert.Proof.DiffAttn

end
-- ==== Proof.Hand.DiffTable.lean ====
/- Hand-written, untrusted: the table of cosines and sines the differential attention call is given, over the extended reals. -/
module

public import proofs.«01_k».proof.Proof.Hand.DiffInputs
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Proof.DiffAttn

open Cert.Kernel7Ideal Cert.Kernel7Ideal.Gen Cert.Reference7Ideal.Read

variable (m : (ℓ : Loc nD τ sig) → Buf (Elt Ideal) ℓ)

/-- The angle of position `n` at frequency `j`. -/
def ang (n j : ℕ) : EReal := FloatOps.sitofp (F := Ideal) FTy.f32 (BitVec.ofNat 32 n)
  * Ideal.div 1 (Ideal.pow (Ideal.ofBits FTy.f32 0x48F42400#32) (Ideal.div (FloatOps.sitofp (F := Ideal) FTy.f32 (BitVec.ofNat 32 j)) (Ideal.ofBits FTy.f32 0x41800000#32)))

/-- The position a row of the table belongs to, as the host code computes it. -/
theorem pos_row (r : ℕ) (hr : r < 2064) : (if h : r < 2048 then IntOp.addi (16#32) (BitVec.ofNat 32 r)
    else if h : r - 2048 < 16 then BitVec.ofNat 32 (r - 2048) else 0#32) = BitVec.ofNat 32 (pos r) := by
  unfold pos
  by_cases h : r < 2048
  · rw [dif_pos h, if_pos h, Nat.add_comm]
    exact (BitVec.ofNat_add 16 r).symm
  · rw [dif_neg h, if_neg h, dif_pos (by omega)]

theorem tab0 (c : Dev nD) (r : Fin 2176) (d : Fin 128) (hr : r.val < 2064) : V m c main_v31 (ix3 0 r d)
    = (if d.val < 16 then Ideal.cos (ang (pos r.val) d.val) else if d.val < 32 then Ideal.cos (ang (pos r.val) (d.val - 16)) else 1 : EReal) := by
  unfold V
  after_reads_simp
  pointwise
  after_reads_simp
  pointwise
  after_reads_simp
  pointwise
  after_reads_simp
  pointwise
  simp only [pos_row r.val hr]
  by_cases h1 : d.val < 16
  · rw [dif_pos h1, if_pos h1]; rfl
  · rw [dif_neg h1, if_neg h1]
    by_cases h2 : d.val < 32
    · rw [dif_pos (by omega), if_pos h2]; rfl
    · rw [dif_neg (by omega), if_neg h2]

theorem tab1 (c : Dev nD) (r : Fin 2176) (d : Fin 128) (hr : r.val < 2064) : V m c main_v31 (ix3 1 r d)
    = (if d.val < 16 then - Ideal.sin (ang (pos r.val) d.val) else 0 : EReal) := by
  unfold V
  after_reads_simp
  pointwise
  after_reads_simp
  pointwise
  after_reads_simp
  pointwise
  after_reads_simp
  pointwise
  simp only [pos_row r.val hr]
  by_cases h1 : d.val < 16
  · rw [dif_pos h1, if_pos h1]; rfl
  · rw [dif_neg h1, if_neg h1]
    try (by_cases h2 : d.val < 32
         · rw [dif_pos (by omega)]
         · rw [dif_neg (by omega)])

theorem tab2 (c : Dev nD) (r : Fin 2176) (d : Fin 128) (hr : r.val < 2064) : V m c main_v31 (ix3 2 r d)
    = (if d.val < 16 then 0 else if d.val < 32 then Ideal.sin (ang (pos r.val) (d.val - 16)) else 0 : EReal) := by
  unfold V
  after_reads_simp
  pointwise
  after_reads_simp
  pointwise
  after_reads_simp
  pointwise
  after_reads_simp
  pointwise
  simp only [pos_row r.val hr]
  by_cases h1 : d.val < 16
  · rw [dif_pos h1, if_pos h1]
  · rw [dif_neg h1, if_neg h1]
    by_cases h2 : d.val < 32
    · rw [dif_pos (by omega), if_pos h2]; rfl
    · rw [dif_neg (by omega), if_neg h2]

/-- The reference's cosines and sines. -/
theorem ref_cos (p : Fin 2064) (j : Fin 16) : val_main_v24 (F := Ideal) (ix2 p j) = Ideal.cos (ang p.val j.val) := by
  pointwise [val_main_v24, val_main_v23, val_main_v22, val_main_v21, val_main_v20, val_main_v19, val_main_v18, val_main_v17, val_main_v16, val_main_v15, val_main_cst_1, val_main_v14, val_main_v13, val_main_cst_0, val_main_v12, val_main_v11, val_main_cst, val_main_v10]
  rfl

theorem ref_sin (p : Fin 2064) (j : Fin 16) : val_main_v25 (F := Ideal) (ix2 p j) = Ideal.sin (ang p.val j.val) := by
  pointwise [val_main_v25, val_main_v23, val_main_v22, val_main_v21, val_main_v20, val_main_v19, val_main_v18, val_main_v17, val_main_v16, val_main_v15, val_main_cst_1, val_main_v14, val_main_v13, val_main_cst_0, val_main_v12, val_main_v11, val_main_cst, val_main_v10]
  rfl

theorem ref_cos' (p : Fin 2064) (j : Fin 16) : val_main_v61 (F := Ideal) (ix2 p j) = Ideal.cos (ang p.val j.val) := by
  pointwise [val_main_v61, val_main_v60, val_main_v59, val_main_v58, val_main_v57, val_main_v56, val_main_v55, val_main_v54, val_main_v53, val_main_v52, val_main_cst_4, val_main_v51, val_main_v50, val_main_cst_3, val_main_v49, val_main_v48, val_main_cst_2, val_main_v47]
  rfl

theorem ref_sin' (p : Fin 2064) (j : Fin 16) : val_main_v62 (F := Ideal) (ix2 p j) = Ideal.sin (ang p.val j.val) := by
  pointwise [val_main_v62, val_main_v60, val_main_v59, val_main_v58, val_main_v57, val_main_v56, val_main_v55, val_main_v54, val_main_v53, val_main_v52, val_main_cst_4, val_main_v51, val_main_v50, val_main_cst_3, val_main_v49, val_main_v48, val_main_cst_2, val_main_v47]
  rfl

/-- Every angle is a real number. -/
theorem ang_real (n j : ℕ) : Softmax.IsR (ang n j) := by
  unfold ang
  rw [Consts.c_theta, Consts.c_sixteen, Ideal.div_coe (by norm_num)]
  have e : ∀ b : BitVec 32, FloatOps.sitofp (F := Ideal) FTy.f32 b = ((b.toInt : ℝ) : EReal) := fun _ => rfl
  rw [e, e, ← EReal.coe_mul, Ideal.pow_coe_coe, Ideal.div_coe (by exact (Real.rpow_pos_of_pos (by norm_num) _).ne')]
  exact Softmax.IsR.mul (.coe _) (Softmax.IsR.mul .one (.coe _))

end Cert.Proof.DiffAttn

end
-- ==== Proof.Hand.DiffRef.lean ====
/- Hand-written, untrusted: what the reference of the differential attention computes, entry by entry, over the extended reals. -/
module

public import proofs.«01_k».proof.Proof.Hand.DiffTable

@[expose] public section

set_option maxRecDepth 16384

noncomputable section

open Idealize.ShloMosaic Idealize.ShloMosaic.TcCoe Idealize.SL.Sem

namespace Cert.Proof.DiffAttn

open Cert.Kernel7Ideal Cert.Kernel7Ideal.Gen Cert.Reference7Ideal.Read

/-- The projection's row that holds position `p` of sequence `b`: the meta rows first, then the tokens. -/
def src (b p : ℕ) : ℕ := if p < 16 then 8192 + b * 128 + (112 + p) else b * 2048 + (p - 16)

theorem src_lt {b p : ℕ} (hb : b < 4) (hp : p < 2064) : src b p < 8704 := by
  unfold src; split <;> omega

/-- A row rotated by the angles of position `p`: two groups of sixteen coordinates rotate against each other, the rest stays. -/
def rope (x : Fin 128 → EReal) (p : ℕ) (d : Fin 128) : EReal :=
  if h : d.val < 16 then x d * Ideal.cos (ang p d.val) - x ⟨d.val + 16, by omega⟩ * Ideal.sin (ang p d.val)
  else if d.val < 32 then x ⟨d.val - 16, by omega⟩ * Ideal.sin (ang p (d.val - 16)) + x d * Ideal.cos (ang p (d.val - 16))
  else x d

abbrev Proj := (⟨Cert.Reference7Ideal.S8704x6144, .bf16⟩ : BufTy).Contents (Elt Ideal)
abbrev Row := (⟨Cert.Reference7Ideal.S1x128, .f32⟩ : BufTy).Contents (Elt Ideal)

theorem ref_row (x0 : Proj) (b : Fin 4) (p : Fin 2064) (k : Fin 6144) :
    val_main_v6 (F := Ideal) x0 (ix3 b p k) = x0 (ix2 ⟨src b.val p.val, src_lt b.isLt p.isLt⟩ k) := by
  pointwise [val_main_v6, val_main_v5, val_main_v4, val_main_v3, val_main_v2, val_main_v1, val_main_v0]
  by_cases h : p.val < 16
  · rw [dif_pos h]
    refine congrArg x0 (congrArg (fun r => ix2 r k) (Fin.ext ?_))
    show _ = src _ _
    rw [src, if_pos h]; dsimp only; omega
  · rw [dif_neg h]
    refine congrArg x0 (congrArg (fun r => ix2 r k) (Fin.ext ?_))
    show _ = src _ _
    rw [src, if_neg h]

theorem ref_q0 (x0 : Proj) (i : Fin 2) (b : Fin 4) (h : Fin 8) (p : Fin 2064) (e : Fin 128) :
    val_main_v9 (F := Ideal) x0 (ix5 i b h p e) = x0 (ix2 ⟨src b.val p.val, src_lt b.isLt p.isLt⟩ ⟨h.val * 256 + i.val * 128 + e.val, by omega⟩) := by
  pointwise [val_main_v9, val_main_v8, val_main_v7]
  rw [ref_row]

theorem ref_k0 (x0 : Proj) (i : Fin 2) (b : Fin 4) (h : Fin 8) (p : Fin 2064) (e : Fin 128) :
    val_main_v46 (F := Ideal) x0 (ix5 i b h p e) = x0 (ix2 ⟨src b.val p.val, src_lt b.isLt p.isLt⟩ ⟨2048 + h.val * 256 + i.val * 128 + e.val, by omega⟩) := by
  pointwise [val_main_v46, val_main_v45, val_main_v44]
  rw [ref_row]
  refine congrArg x0 (congrArg (fun k => ix2 _ k) (Fin.ext ?_))
  show _ = 2048 + h.val * 256 + i.val * 128 + e.val
  dsimp only
  omega

theorem ref_v (x0 : Proj) (b : Fin 4) (h : Fin 8) (p : Fin 2064) (e : Fin 256) :
    val_main_v83 (F := Ideal) x0 (ix4 b h p e) = x0 (ix2 ⟨src b.val p.val, src_lt b.isLt p.isLt⟩ ⟨4096 + h.val * 256 + e.val, by omega⟩) := by
  pointwise [val_main_v83, val_main_v82, val_main_v81]
  rw [ref_row]
  refine congrArg x0 (congrArg (fun k => ix2 _ k) (Fin.ext ?_))
  show _ = 4096 + h.val * 256 + e.val
  dsimp only
  omega

theorem ref_q_a (x0 : Proj) (i : Fin 2) (b : Fin 4) (h : Fin 8) (p : Fin 2064) (j : Fin 16) :
    val_main_v26 (F := Ideal) x0 (ix5 i b h p j) = val_main_v9 (F := Ideal) x0 (ix5 i b h p ⟨j.val, by omega⟩) := by
  rw [val_main_v26_apply]
  generalize val_main_v9 (F := Ideal) x0 = y
  refine congrArg y ?_
  idx_ext

theorem ref_q_b (x0 : Proj) (i : Fin 2) (b : Fin 4) (h : Fin 8) (p : Fin 2064) (j : Fin 16) :
    val_main_v27 (F := Ideal) x0 (ix5 i b h p j) = val_main_v9 (F := Ideal) x0 (ix5 i b h p ⟨16 + j.val, by omega⟩) := by
  rw [val_main_v27_apply]
  generalize val_main_v9 (F := Ideal) x0 = y
  refine congrArg y ?_
  idx_ext

theorem ref_q_c (x0 : Proj) (i : Fin 2) (b : Fin 4) (h : Fin 8) (p : Fin 2064) (j : Fin 96) :
    val_main_v42 (F := Ideal) x0 (ix5 i b h p j) = val_main_v9 (F := Ideal) x0 (ix5 i b h p ⟨32 + j.val, by omega⟩) := by
  rw [val_main_v42_apply]
  generalize val_main_v9 (F := Ideal) x0 = y
  refine congrArg y ?_
  idx_ext

theorem at29 (i : Fin 2) (b : Fin 4) (h : Fin 8) (p : Fin 2064) (j : Fin 16) :
    val_main_v29 (F := Ideal) (ix5 i b h p j) = Ideal.cos (ang p.val j.val) := by
  rw [val_main_v29_apply, val_main_v28_apply]
  refine Eq.trans ?_ (ref_cos p j)
  generalize val_main_v24 (F := Ideal) = y
  refine congrArg y ?_
  idx_ext

theorem at32 (i : Fin 2) (b : Fin 4) (h : Fin 8) (p : Fin 2064) (j : Fin 16) :
    val_main_v32 (F := Ideal) (ix5 i b h p j) = Ideal.sin (ang p.val j.val) := by
  rw [val_main_v32_apply, val_main_v31_apply]
  refine Eq.trans ?_ (ref_sin p j)
  generalize val_main_v25 (F := Ideal) = y
  refine congrArg y ?_
  idx_ext

theorem at36 (i : Fin 2) (b : Fin 4) (h : Fin 8) (p : Fin 2064) (j : Fin 16) :
    val_main_v36 (F := Ideal) (ix5 i b h p j) = Ideal.sin (ang p.val j.val) := by
  rw [val_main_v36_apply, val_main_v35_apply]
  refine Eq.trans ?_ (ref_sin p j)
  generalize val_main_v25 (F := Ideal) = y
  refine congrArg y ?_
  idx_ext

theorem at39 (i : Fin 2) (b : Fin 4) (h : Fin 8) (p : Fin 2064) (j : Fin 16) :
    val_main_v39 (F := Ideal) (ix5 i b h p j) = Ideal.cos (ang p.val j.val) := by
  rw [val_main_v39_apply, val_main_v38_apply]
  refine Eq.trans ?_ (ref_cos p j)
  generalize val_main_v24 (F := Ideal) = y
  refine congrArg y ?_
  idx_ext

theorem ref_q_s (x0 : Proj) (i : Fin 2) (b : Fin 4) (h : Fin 8) (p : Fin 2064) (j : Fin 16) :
    val_main_v34 (F := Ideal) x0 (ix5 i b h p j) = val_main_v9 (F := Ideal) x0 (ix5 i b h p ⟨j.val, by omega⟩) * Ideal.cos (ang p.val j.val) - val_main_v9 (F := Ideal) x0 (ix5 i b h p ⟨16 + j.val, by omega⟩) * Ideal.sin (ang p.val j.val) := by
  rw [val_main_v34_apply, val_main_v30_apply, val_main_v33_apply, at29, at32, ref_q_a, ref_q_b]
  generalize val_main_v9 (F := Ideal) x0 = y
  rfl

theorem ref_q_t (x0 : Proj) (i : Fin 2) (b : Fin 4) (h : Fin 8) (p : Fin 2064) (j : Fin 16) :
    val_main_v41 (F := Ideal) x0 (ix5 i b h p j) = val_main_v9 (F := Ideal) x0 (ix5 i b h p ⟨j.val, by omega⟩) * Ideal.sin (ang p.val j.val) + val_main_v9 (F := Ideal) x0 (ix5 i b h p ⟨16 + j.val, by omega⟩) * Ideal.cos (ang p.val j.val) := by
  rw [val_main_v41_apply, val_main_v37_apply, val_main_v40_apply, at36, at39, ref_q_a, ref_q_b]
  generalize val_main_v9 (F := Ideal) x0 = y
  rfl

theorem ref_q (x0 : Proj) (i : Fin 2) (b : Fin 4) (h : Fin 8) (p : Fin 2064) (d : Fin 128) :
    val_main_v43 (F := Ideal) x0 (ix5 i b h p d) = rope (fun e => val_main_v9 (F := Ideal) x0 (ix5 i b h p e)) p.val d := by
  have hs := ref_q_s x0
  have ht := ref_q_t x0
  have hr := ref_q_c x0
  revert hs ht hr
  unfold val_main_v43
  generalize val_main_v34 (F := Ideal) x0 = A
  generalize val_main_v41 (F := Ideal) x0 = B
  generalize val_main_v42 (F := Ideal) x0 = R
  generalize val_main_v9 (F := Ideal) x0 = y
  intro hs ht hr
  pointwise
  unfold rope
  by_cases h1 : d.val < 16
  · rw [dif_pos h1, dif_pos h1, hs]
    have e : (⟨16 + d.val, by omega⟩ : Fin 128) = ⟨d.val + 16, by omega⟩ := Fin.ext (Nat.add_comm _ _)
    rw [e]
  · rw [dif_neg h1, dif_neg h1]
    by_cases h2 : d.val < 32
    · rw [dif_pos (by omega), if_pos h2, ht]
      have e : (⟨16 + (d.val - 16), by omega⟩ : Fin 128) = d := Fin.ext (by show 16 + (d.val - 16) = d.val; omega)
      rw [e]
    · rw [dif_neg (by omega), if_neg h2, hr]
      exact congrArg (fun e => y (ix5 i b h p e)) (Fin.ext (by show 32 + (d.val - 16 - 16) = d.val; omega))

theorem ref_k_a (x0 : Proj) (i : Fin 2) (b : Fin 4) (h : Fin 8) (p : Fin 2064) (j : Fin 16) :
    val_main_v63 (F := Ideal) x0 (ix5 i b h p j) = val_main_v46 (F := Ideal) x0 (ix5 i b h p ⟨j.val, by omega⟩) := by
  rw [val_main_v63_apply]
  generalize val_main_v46 (F := Ideal) x0 = y
  refine congrArg y ?_
  idx_ext

theorem ref_k_b (x0 : Proj) (i : Fin 2) (b : Fin 4) (h : Fin 8) (p : Fin 2064) (j : Fin 16) :
    val_main_v64 (F := Ideal) x0 (ix5 i b h p j) = val_main_v46 (F := Ideal) x0 (ix5 i b h p ⟨16 + j.val, by omega⟩) := by
  rw [val_main_v64_apply]
  generalize val_main_v46 (F := Ideal) x0 = y
  refine congrArg y ?_
  idx_ext

theorem ref_k_c (x0 : Proj) (i : Fin 2) (b : Fin 4) (h : Fin 8) (p : Fin 2064) (j : Fin 96) :
    val_main_v79 (F := Ideal) x0 (ix5 i b h p j) = val_main_v46 (F := Ideal) x0 (ix5 i b h p ⟨32 + j.val, by omega⟩) := by
  rw [val_main_v79_apply]
  generalize val_main_v46 (F := Ideal) x0 = y
  refine congrArg y ?_
  idx_ext

theorem at66 (i : Fin 2) (b : Fin 4) (h : Fin 8) (p : Fin 2064) (j : Fin 16) :
    val_main_v66 (F := Ideal) (ix5 i b h p j) = Ideal.cos (ang p.val j.val) := by
  rw [val_main_v66_apply, val_main_v65_apply]
  refine Eq.trans ?_ (ref_cos' p j)
  generalize val_main_v61 (F := Ideal) = y
  refine congrArg y ?_
  idx_ext

theorem at69 (i : Fin 2) (b : Fin 4) (h : Fin 8) (p : Fin 2064) (j : Fin 16) :
    val_main_v69 (F := Ideal) (ix5 i b h p j) = Ideal.sin (ang p.val j.val) := by
  rw [val_main_v69_apply, val_main_v68_apply]
  refine Eq.trans ?_ (ref_sin' p j)
  generalize val_main_v62 (F := Ideal) = y
  refine congrArg y ?_
  idx_ext

theorem at73 (i : Fin 2) (b : Fin 4) (h : Fin 8) (p : Fin 2064) (j : Fin 16) :
    val_main_v73 (F := Ideal) (ix5 i b h p j) = Ideal.sin (ang p.val j.val) := by
  rw [val_main_v73_apply, val_main_v72_apply]
  refine Eq.trans ?_ (ref_sin' p j)
  generalize val_main_v62 (F := Ideal) = y
  refine congrArg y ?_
  idx_ext

theorem at76 (i : Fin 2) (b : Fin 4) (h : Fin 8) (p : Fin 2064) (j : Fin 16) :
    val_main_v76 (F := Ideal) (ix5 i b h p j) = Ideal.cos (ang p.val j.val) := by
  rw [val_main_v76_apply, val_main_v75_apply]
  refine Eq.trans ?_ (ref_cos' p j)
  generalize val_main_v61 (F := Ideal) = y
  refine congrArg y ?_
  idx_ext

theorem ref_k_s (x0 : Proj) (i : Fin 2) (b : Fin 4) (h : Fin 8) (p : Fin 2064) (j : Fin 16) :
    val_main_v71 (F := Ideal) x0 (ix5 i b h p j) = val_main_v46 (F := Ideal) x0 (ix5 i b h p ⟨j.val, by omega⟩) * Ideal.cos (ang p.val j.val) - val_main_v46 (F := Ideal) x0 (ix5 i b h p ⟨16 + j.val, by omega⟩) * Ideal.sin (ang p.val j.val) := by
  rw [val_main_v71_apply, val_main_v67_apply, val_main_v70_apply, at66, at69, ref_k_a, ref_k_b]
  generalize val_main_v46 (F := Ideal) x0 = y
  rfl

theorem ref_k_t (x0 : Proj) (i : Fin 2) (b : Fin 4) (h : Fin 8) (p : Fin 2064) (j : Fin 16) :
    val_main_v78 (F := Ideal) x0 (ix5 i b h p j) = val_main_v46 (F := Ideal) x0 (ix5 i b h p ⟨j.val, by omega⟩) * Ideal.sin (ang p.val j.val) + val_main_v46 (F := Ideal) x0 (ix5 i b h p ⟨16 + j.val, by omega⟩) * Ideal.cos (ang p.val j.val) := by
  rw [val_main_v78_apply, val_main_v74_apply, val_main_v77_apply, at73, at76, ref_k_a, ref_k_b]
  generalize val_main_v46 (F := Ideal) x0 = y
  rfl

theorem ref_k (x0 : Proj) (i : Fin 2) (b : Fin 4) (h : Fin 8) (p : Fin 2064) (d : Fin 128) :
    val_main_v80 (F := Ideal) x0 (ix5 i b h p d) = rope (fun e => val_main_v46 (F := Ideal) x0 (ix5 i b h p e)) p.val d := by
  have hs := ref_k_s x0
  have ht := ref_k_t x0
  have hr := ref_k_c x0
  revert hs ht hr
  unfold val_main_v80
  generalize val_main_v71 (F := Ideal) x0 = A
  generalize val_main_v78 (F := Ideal) x0 = B
  generalize val_main_v79 (F := Ideal) x0 = R
  generalize val_main_v46 (F := Ideal) x0 = y
  intro hs ht hr
  pointwise
  unfold rope
  by_cases h1 : d.val < 16
  · rw [dif_pos h1, dif_pos h1, hs]
    have e : (⟨16 + d.val, by omega⟩ : Fin 128) = ⟨d.val + 16, by omega⟩ := Fin.ext (Nat.add_comm _ _)
    rw [e]
  · rw [dif_neg h1, dif_neg h1]
    by_cases h2 : d.val < 32
    · rw [dif_pos (by omega), if_pos h2, ht]
      have e : (⟨16 + (d.val - 16), by omega⟩ : Fin 128) = d := Fin.ext (by show 16 + (d.val - 16) = d.val; omega)
      rw [e]
    · rw [dif_neg (by omega), if_neg h2, hr]
      exact congrArg (fun e => y (ix5 i b h p e)) (Fin.ext (by show 32 + (d.val - 16 - 16) = d.val; omega))

/-- A rotated row of reals is real. -/
theorem rope_real (x : Fin 128 → EReal) (hx : ∀ e, Softmax.IsR (x e)) (p : ℕ) (d : Fin 128) : Softmax.IsR (rope x p d) := by
  have hc : ∀ j, Softmax.IsR (Ideal.cos (ang p j)) := fun j => by
    obtain ⟨a, ha⟩ := ang_real p j
    rw [ha]; exact ⟨_, rfl⟩
  have hs : ∀ j, Softmax.IsR (Ideal.sin (ang p j)) := fun j => by
    obtain ⟨a, ha⟩ := ang_real p j
    rw [ha]; exact ⟨_, rfl⟩
  unfold rope
  split
  · exact ((hx _).mul (hc _)).sub ((hx _).mul (hs _))
  · split
    · exact ((hx _).mul (hs _)).add ((hx _).mul (hc _))
    · exact hx _

/-- The kernel's rotation with the table's three rows is the same rotation. -/
theorem rope_tab (x : Fin 128 → EReal) (p : ℕ) (d : Fin 128) (y z t0 t1 t2 : EReal)
    (hy : y = x ⟨(d.val + 16) % 128, Nat.mod_lt _ (by decide)⟩) (hz : z = x ⟨(d.val + 112) % 128, Nat.mod_lt _ (by decide)⟩)
    (h0 : t0 = (if d.val < 16 then Ideal.cos (ang p d.val) else if d.val < 32 then Ideal.cos (ang p (d.val - 16)) else 1 : EReal))
    (h1 : t1 = (if d.val < 16 then - Ideal.sin (ang p d.val) else 0 : EReal))
    (h2 : t2 = (if d.val < 16 then 0 else if d.val < 32 then Ideal.sin (ang p (d.val - 16)) else 0 : EReal)) :
    x d * t0 + y * t1 + z * t2 = rope x p d := by
  subst hy hz h0 h1 h2
  unfold rope
  by_cases h1 : d.val < 16
  · rw [if_pos h1, if_pos h1, if_pos h1, dif_pos h1, mul_zero, add_zero, mul_neg, sub_eq_add_neg]
    have e : (⟨(d.val + 16) % 128, Nat.mod_lt _ (by decide)⟩ : Fin 128) = ⟨d.val + 16, by omega⟩ := Fin.ext (by show (d.val + 16) % 128 = d.val + 16; omega)
    rw [e]
  · rw [if_neg h1, if_neg h1, if_neg h1, dif_neg h1, mul_zero, add_zero]
    by_cases h2 : d.val < 32
    · rw [if_pos h2, if_pos h2, if_pos h2, add_comm]
      have e : (⟨(d.val + 112) % 128, Nat.mod_lt _ (by decide)⟩ : Fin 128) = ⟨d.val - 16, by omega⟩ := Fin.ext (by show (d.val + 112) % 128 = d.val - 16; omega)
      rw [e]
    · rw [if_neg h2, if_neg h2, if_neg h2, mul_zero, add_zero, mul_one]

/-- A score of the reference before the division by the root of the width. -/
def score (x0 : Proj) (i : Fin 2) (b : Fin 4) (h : Fin 8) (p j : Fin 2064) : EReal :=
  ∑ d : Fin 128, val_main_v43 (F := Ideal) x0 (ix5 i b h p d) * val_main_v80 (F := Ideal) x0 (ix5 i b h j d)

end Cert.Proof.DiffAttn

end
-- ==== Proof.Hand.DiffScore.lean ====
/- Hand-written, untrusted: what the reference of the differential attention computes, entry by entry, over the extended reals. -/
module

public import proofs.«01_k».proof.Proof.Hand.DiffRef

@[expose] public section

set_option maxRecDepth 16384

noncomputable section

open Idealize.ShloMosaic Idealize.ShloMosaic.TcCoe Idealize.SL.Sem

namespace Cert.Proof.DiffAttn

open Cert.Kernel7Ideal Cert.Kernel7Ideal.Gen Cert.Reference7Ideal.Read

/-- A score is a sum over the width. -/
theorem ref_score (x0 : Proj) (i : Fin 2) (b : Fin 4) (h : Fin 8) (p j : Fin 2064) :
    val_main_v96 (F := Ideal) x0 (ix5 i b h p j) = score x0 i b h p j := by
  rw [val_main_v96_apply]
  unfold score
  generalize val_main_v43 (F := Ideal) x0 = y
  generalize val_main_v80 (F := Ideal) x0 = z
  refine Finset.sum_congr rfl fun k _ => congrArg₂ (fun u v : EReal => u * v) (congrArg y ?_) (congrArg z ?_)
  · idx_ext
  · idx_ext

theorem ref_div (x0 : Proj) (i : Fin 2) (b : Fin 4) (h : Fin 8) (p j : Fin 2064) :
    val_main_v99 (F := Ideal) x0 (ix5 i b h p j) = Ideal.div (score x0 i b h p j) ((Real.sqrt 128 : ℝ) : EReal) := by
  rw [val_main_v99_apply, ref_score, val_main_v98_apply, val_main_v97_apply]
  show Ideal.div _ (Ideal.sqrt (Ideal.ofBits FTy.f32 0x43000000#32)) = _
  rw [Consts.c_128, Ideal.sqrt_coe, if_neg (by norm_num)]

theorem ref_max (x0 : Proj) (i : Fin 2) (b : Fin 4) (h : Fin 8) (p : Fin 2064) :
    val_main_v102 (F := Ideal) x0 (ix4 i b h p) = Finset.univ.fold max (⊥ : EReal) fun j => Ideal.div (score x0 i b h p j) ((Real.sqrt 128 : ℝ) : EReal) := by
  rw [val_main_v102_apply]
  unfold val_main_v100
  have hd := ref_div x0 i b h p
  revert hd
  generalize val_main_v99 (F := Ideal) x0 = y
  intro hd
  pointwise [val_main_v101, val_main_cst_10, val_main_cst_9]
  rw [Consts.c_bot, bot_sup_eq]
  exact congrArg (fun f => Finset.fold max (⊥ : EReal) f Finset.univ) (funext fun j => hd j)

/-- What the reference takes the exponential of. -/
theorem ref_exp (x0 : Proj) (i : Fin 2) (b : Fin 4) (h : Fin 8) (p j : Fin 2064) :
    val_main_v106 (F := Ideal) x0 (ix5 i b h p j) = Ideal.exp (Ideal.div (score x0 i b h p j) ((Real.sqrt 128 : ℝ) : EReal)
      - Finset.univ.fold max (⊥ : EReal) fun j => Ideal.div (score x0 i b h p j) ((Real.sqrt 128 : ℝ) : EReal)) := by
  rw [val_main_v106_apply, val_main_v105_apply, val_main_v104_apply, val_main_v103_apply, ref_div, ← ref_max]
  generalize val_main_v102 (F := Ideal) x0 = y
  refine congrArg (fun u => Ideal.exp (Ideal.div (score x0 i b h p j) ((Real.sqrt 128 : ℝ) : EReal) - y u)) ?_
  idx_ext

theorem ref_lam (x1 x2 x3 x4 : Row) : val_main_v95 (F := Ideal) x1 x2 x3 x4 ix0
    = Ideal.exp (∑ k : Fin 128, x1 (ix2 0 k) * x2 (ix2 0 k)) - Ideal.exp (∑ k : Fin 128, x3 (ix2 0 k) * x4 (ix2 0 k)) + ((13421773 / 67108864 : ℝ) : EReal) := by
  pointwise [val_main_v95, val_main_v94, val_main_v93, val_main_v92, val_main_v91, val_main_v90, val_main_v89, val_main_v88, val_main_v87, val_main_v86, val_main_v85, val_main_v84, val_main_cst_5, val_main_cst_6, val_main_cst_7]
  rw [Consts.c_fifth]

/-- A sum of exponentials. -/
theorem ref_sum (x0 : Proj) (i : Fin 2) (b : Fin 4) (h : Fin 8) (p : Fin 2064) :
    val_main_v107 (F := Ideal) x0 (ix4 i b h p) = ∑ j : Fin 2064, val_main_v106 (F := Ideal) x0 (ix5 i b h p j) := by
  rw [val_main_v107_apply]
  generalize val_main_v106 (F := Ideal) x0 = y
  have e0 : val_main_cst_11 (F := Ideal) (Shape.Idx.first Cert.Reference7Ideal.Gen.h_S_) = 0 := by pointwise [val_main_cst_11]
  rw [e0, zero_add]
  refine Finset.sum_congr rfl fun k _ => congrArg y ?_
  idx_ext

theorem ref_prob (x0 : Proj) (i : Fin 2) (b : Fin 4) (h : Fin 8) (p j : Fin 2064) :
    val_main_v110 (F := Ideal) x0 (ix5 i b h p j) = Ideal.div (val_main_v106 (F := Ideal) x0 (ix5 i b h p j)) (∑ j : Fin 2064, val_main_v106 (F := Ideal) x0 (ix5 i b h p j)) := by
  rw [val_main_v110_apply, val_main_v109_apply, val_main_v108_apply, ← ref_sum]
  generalize val_main_v106 (F := Ideal) x0 = y
  generalize val_main_v107 (F := Ideal) x0 = z
  refine congrArg (fun u => Ideal.div (y _) (z u)) ?_
  idx_ext

theorem ref_mix (x0 : Proj) (x1 x2 x3 x4 : Row) (b : Fin 4) (h : Fin 8) (p j : Fin 2064) :
    val_main_v117 (F := Ideal) x0 x1 x2 x3 x4 (ix4 b h p j) = val_main_v110 (F := Ideal) x0 (ix5 0 b h p j) - val_main_v95 (F := Ideal) x1 x2 x3 x4 ix0 * val_main_v110 (F := Ideal) x0 (ix5 1 b h p j) := by
  rw [val_main_v117_apply, val_main_v116_apply, val_main_v115_apply, val_main_v112_apply, val_main_v114_apply, val_main_v111_apply, val_main_v113_apply]
  generalize val_main_v110 (F := Ideal) x0 = y
  generalize val_main_v95 (F := Ideal) x1 x2 x3 x4 = z
  have e1 : idx_main_v111 (idx_main_v112 (ix4 b h p j)) = ix5 0 b h p j := by idx_ext
  have e2 : idx_main_v113 (idx_main_v114 (ix4 b h p j)) = ix5 1 b h p j := by idx_ext
  have e3 : idx_main_v115 (ix4 b h p j) = ix0 := by idx_ext
  rw [e1, e2, e3]
  rfl

/-- The reference's row before the normalisation. -/
theorem ref_o (x0 : Proj) (x1 x2 x3 x4 : Row) (b : Fin 4) (h : Fin 8) (p : Fin 2064) (e : Fin 256) :
    val_main_v118 (F := Ideal) x0 x1 x2 x3 x4 (ix4 b h p e) = ∑ j : Fin 2064,
      (Ideal.div (val_main_v106 (F := Ideal) x0 (ix5 0 b h p j)) (∑ j : Fin 2064, val_main_v106 (F := Ideal) x0 (ix5 0 b h p j))
        - val_main_v95 (F := Ideal) x1 x2 x3 x4 ix0 * Ideal.div (val_main_v106 (F := Ideal) x0 (ix5 1 b h p j)) (∑ j : Fin 2064, val_main_v106 (F := Ideal) x0 (ix5 1 b h p j)))
        * val_main_v83 (F := Ideal) x0 (ix4 b h j e) := by
  rw [val_main_v118_apply]
  have hm := ref_mix x0 x1 x2 x3 x4 b h p
  revert hm
  simp only [ref_prob]
  generalize val_main_v117 (F := Ideal) x0 x1 x2 x3 x4 = y
  generalize val_main_v83 (F := Ideal) x0 = z
  intro hm
  refine Finset.sum_congr rfl fun k _ => congrArg₂ (fun u v : EReal => u * v) (Eq.trans (congrArg y ?_) (hm k)) (congrArg z ?_)
  · idx_ext
  · idx_ext

/-- A row of the reference after the normalisation, before the slice. -/
theorem ref_norm (x0 : Proj) (x1 x2 x3 x4 : Row) (x5 : (⟨Cert.Reference7Ideal.S1x256, .f32⟩ : BufTy).Contents (Elt Ideal)) (b : Fin 4) (p : Fin 2064) (h : Fin 8) (e : Fin 256)
    (o : Fin 256 → EReal) (ho : ∀ e, val_main_v118 (F := Ideal) x0 x1 x2 x3 x4 (ix4 b h p e) = o e) :
    val_main_v135 (F := Ideal) x0 x1 x2 x3 x4 x5 (ix4 b p h e) = o e * Ideal.rsqrt (Ideal.div (∑ e, o e * o e) (Ideal.ofBits FTy.f32 0x43800000#32) + Ideal.ofBits FTy.f32 0x358637BD#32) * x5 (ix2 0 e) * Ideal.ofBits FTy.f32 0x3F4CCCCD#32 := by
  have hs : val_main_v122 (F := Ideal) x0 x1 x2 x3 x4 (ix3 b p h) = ∑ e, o e * o e := by
    rw [val_main_v122_apply]
    have e0 : val_main_cst_12 (F := Ideal) (Shape.Idx.first Cert.Reference7Ideal.Gen.h_S_) = 0 := by pointwise [val_main_cst_12]
    rw [e0, zero_add]
    refine Finset.sum_congr rfl fun k _ => ?_
    rw [val_main_v121_apply, val_main_v119_apply]
    revert ho
    generalize val_main_v118 (F := Ideal) x0 x1 x2 x3 x4 = y
    intro ho
    have e1 : idx_main_v119 (idx_main_v122 (ix3 b p h) k) = ix4 b h p k := by idx_ext
    rw [e1, ho]
    rfl
  rw [val_main_v135_apply, val_main_v133_apply, val_main_v130_apply, val_main_v129_apply, val_main_v128_apply, val_main_v132_apply, val_main_v131_apply, val_main_v134_apply, val_main_v127_apply, val_main_v126_apply, val_main_v125_apply, val_main_v124_apply, val_main_v123_apply, val_main_v120_apply, val_main_v119_apply]
  have e1 : idx_main_v119 (ix4 b p h e) = ix4 b h p e := by idx_ext
  have e2 : idx_main_v123 (idx_main_v129 (ix4 b p h e)) = ix3 b p h := by idx_ext
  have e3 : idx_main_v120 (idx_main_v131 (idx_main_v132 (ix4 b p h e))) = ix2 0 e := by idx_ext
  rw [e1, e2, e3, hs, ho]
  rfl

/-- The result of the reference is those rows, from the seventeenth position on. -/
theorem ref_out (x0 : Proj) (x1 x2 x3 x4 : Row) (x5 : (⟨Cert.Reference7Ideal.S1x256, .f32⟩ : BufTy).Contents (Elt Ideal)) (b : Fin 4) (h : Fin 8) (r : Fin 2048) (e : Fin 256) :
    val_main_v138 (F := Ideal) x0 x1 x2 x3 x4 x5 (ix2 ⟨b.val * 2048 + r.val, by omega⟩ ⟨h.val * 256 + e.val, by omega⟩)
      = val_main_v135 (F := Ideal) x0 x1 x2 x3 x4 x5 (ix4 b ⟨16 + r.val, by omega⟩ h e) := by
  rw [val_main_v138_apply, val_main_v137_apply, val_main_v136_apply]
  generalize val_main_v135 (F := Ideal) x0 x1 x2 x3 x4 x5 = y
  refine congrArg y ?_
  idx_ext

end Cert.Proof.DiffAttn

end
-- ==== Proof.Hand.DiffKernel.lean ====
/- Hand-written, untrusted: what the body of the differential attention computes from what it reads, entry by entry, over the extended reals. -/
module

public import proofs.«01_k».proof.Proof.Hand.DiffRef

@[expose] public section

set_option maxRecDepth 16384

noncomputable section

open Idealize.ShloMosaic Idealize.ShloMosaic.TcCoe Idealize.SL.Sem

namespace Cert.Proof.DiffAttn

open Cert.Kernel7Ideal Cert.Kernel7Ideal.Gen

/-- The factor in the exponent: the reciprocal of the root of the width, over the logarithm of two. -/
def scale : EReal := (((Real.sqrt 128)⁻¹ * (Real.log 2)⁻¹ : ℝ) : EReal)

/-- A masked score of the body. -/
def sc (q : Fin 128 → EReal) (K : Vec Ideal S1x2176x128 .bf16) (k : Fin 2176) : EReal :=
  if k.val < 2064 then ∑ d : Fin 128, q d * K (ix3 0 k d) else ⊥

/-- A weight of the body before the normalisation. -/
def pr (q : Fin 128 → EReal) (K : Vec Ideal S1x2176x128 .bf16) (k : Fin 2176) : EReal :=
  Ideal.exp2 ((sc q K k - Finset.univ.fold max (⊥ : EReal) (sc q K)) * scale)

theorem masked_eq : Named.named (F := Ideal) κ "masked" (φ := .f32) 0xF149F2CA#32 = (⊥ : EReal) := IdealRules.named_const.ideal_named_scalar _ _ _ _ rfl
theorem scale_eq : Named.named (F := Ideal) κ "exp2_scale" (φ := .f32) 0x3E0293EE#32 = scale := IdealRules.named_const.ideal_named_scalar _ _ _ _ rfl

theorem mask_at (k : Fin 2176) (x y : EReal) : Scalar.select (IntOp.cmpi .slt (BitVec.ofNat 32 k.val) 2064#32) x y = if k.val < 2064 then x else y := by
  have hk := k.isLt
  have e : IntOp.cmpi .slt (BitVec.ofNat 32 k.val) 2064#32 = BitVec.ofBool (decide (k.val < 2064)) := by
    unfold IntOp.cmpi
    refine congrArg BitVec.ofBool ?_
    rw [Bool.eq_iff_iff, decide_eq_true_iff]
    show (BitVec.ofNat 32 k.val).slt 2064#32 = true ↔ _
    rw [BitVec.slt_iff_toInt_lt, BitVec.toInt_eq_toNat_of_lt (by rw [BitVec.toNat_ofNat]; omega), BitVec.toNat_ofNat]
    have h2 : (2064#32).toInt = 2064 := by decide
    rw [h2]
    omega
  rw [e]
  by_cases h : k.val < 2064
  · rw [if_pos h, decide_eq_true h]; rfl
  · rw [if_neg h, decide_eq_false h]; rfl

theorem back16 (d : Fin 128) : (⟨(d.val + 128 - 112) % 128, Nat.mod_lt _ (by decide)⟩ : Fin 128) = ⟨(d.val + 16) % 128, Nat.mod_lt _ (by decide)⟩ := Fin.ext (by show (d.val + 128 - 112) % 128 = (d.val + 16) % 128; omega)
theorem back112 (d : Fin 128) : (⟨(d.val + 128 - 16) % 128, Nat.mod_lt _ (by decide)⟩ : Fin 128) = ⟨(d.val + 112) % 128, Nat.mod_lt _ (by decide)⟩ := Fin.ext (by show (d.val + 128 - 16) % 128 = (d.val + 112) % 128; omega)

theorem pay21_at (v23 : FVec Ideal S3x2048x128 .f32) (v28 v31 v35 : FVec Ideal S2048x128 .f32) (K : Vec Ideal S1x2176x128 .bf16) (W : Vec Ideal S2176x256 .bf16) (r : Fin 2048) (e : Fin 256)
    (q : Fin 128 → EReal) (hq : ∀ d : Fin 128, v31 (ix2 r d) + v35 (ix2 r d) + v28 (ix2 r ⟨(d.val + 112) % 128, Nat.mod_lt _ (by decide)⟩) * v23 (ix3 2 r d) = q d) :
    k0_pay21 v23 k0_pay17 v28 v31 v35 K W (ix2 r e) = (∑ k, pr q K k * W (ix2 k e)) * Ideal.div 1 (∑ k, pr q K k) := by
  unfold k0_pay21 k0_pay17
  pointwise
  simp only [back112, hq, mask_at, masked_eq, scale_eq, Consts.c_bot]
  rfl

theorem pay19_at (v22 : Vec Ideal S3x2048x128 .f32) (x : Vec Ideal S2048x128 .bf16) (r : Fin 2048) (d : Fin 128) :
    k0_pay19 v22 x (ix2 r d) = x (ix2 r d) * v22 (ix3 0 r d) := by
  unfold k0_pay19 k0_pay18 k0_pay16
  pointwise

theorem pay20_at (v22 : Vec Ideal S3x2048x128 .f32) (x : Vec Ideal S2048x128 .bf16) (r : Fin 2048) (d : Fin 128) :
    k0_pay20 v22 x (ix2 r d) = x (ix2 r ⟨(d.val + 16) % 128, Nat.mod_lt _ (by decide)⟩) * v22 (ix3 1 r d) := by
  unfold k0_pay20 k0_pay18 k0_pay16
  pointwise
  simp only [back16]

theorem pay22_at (v22 : Vec Ideal S3x2048x128 .f32) (x : Vec Ideal S2048x128 .bf16) (r : Fin 2048) (d : Fin 128) :
    k0_pay22 (k0_pay16 v22) x (ix2 r d) = x (ix2 r d) * v22 (ix3 0 r d) + x (ix2 r ⟨(d.val + 16) % 128, Nat.mod_lt _ (by decide)⟩) * v22 (ix3 1 r d)
      + x (ix2 r ⟨(d.val + 112) % 128, Nat.mod_lt _ (by decide)⟩) * v22 (ix3 2 r d) := by
  unfold k0_pay22 k0_pay16
  pointwise
  simp only [back16, back112]

theorem pay15_at (a b c d : Vec Ideal S1x128 .f32) :
    k0_pay15 a b c d (ix2 0 0) = Ideal.exp (∑ k : Fin 128, a (ix2 0 k) * b (ix2 0 k)) - Ideal.exp (∑ k : Fin 128, c (ix2 0 k) * d (ix2 0 k)) + ((13421773 / 67108864 : ℝ) : EReal) := by
  unfold k0_pay15
  pointwise
  rw [Consts.c_fifth]

theorem pay23_at (l : FVec Ideal S1x1 .f32) (v63 : FVec Ideal S2048x256 .f32) (q : FVec Ideal S2048x128 .f32) (K : Vec Ideal S1x2176x128 .bf16) (W : Vec Ideal S2176x256 .bf16) (g : Vec Ideal S1x256 .f32) (r : Fin 2048) (e : Fin 256)
    (o : Fin 256 → EReal) (ho : ∀ e, v63 (ix2 r e) - l (ix2 0 0) * ((∑ k, pr (fun d => q (ix2 r d)) K k * W (ix2 k e)) * Ideal.div 1 (∑ k, pr (fun d => q (ix2 r d)) K k)) = o e) :
    k0_pay23 l k0_pay17 v63 q K W g (ix2 r e) = o e * Ideal.rsqrt (Ideal.div (∑ e, o e * o e) (Ideal.ofBits FTy.f32 0x43800000#32) + Ideal.ofBits FTy.f32 0x358637BD#32) * g (ix2 0 e) * Ideal.ofBits FTy.f32 0x3F4CCCCD#32 := by
  unfold k0_pay23 k0_pay17
  pointwise
  simp only [mask_at, masked_eq, scale_eq, Consts.c_bot]
  have h : ∀ e, v63 (ix2 r e) - l (ix2 0 0) * ((∑ k, FloatOps.exp2 (F := Ideal) (φ := .f32) (((if k.val < 2064 then ∑ d, q (ix2 r d) * K (ix3 0 k d) else ⊥)
      - Finset.univ.fold max (⊥ : EReal) fun k : Fin 2176 => if k.val < 2064 then ∑ d, q (ix2 r d) * K (ix3 0 k d) else ⊥) * scale) * W (ix2 k e))
      * Ideal.div 1 (∑ k : Fin 2176, FloatOps.exp2 (F := Ideal) (φ := .f32) (((if k.val < 2064 then ∑ d, q (ix2 r d) * K (ix3 0 k d) else ⊥)
      - Finset.univ.fold max (⊥ : EReal) fun k : Fin 2176 => if k.val < 2064 then ∑ d, q (ix2 r d) * K (ix3 0 k d) else ⊥) * scale))) = o e := ho
  simp only [h]

end Cert.Proof.DiffAttn

end
-- ==== Proof.Hand.DiffCombine.lean ====
/- Hand-written, untrusted: the body's rows of the differential attention are the reference's, over the extended reals. -/
module

public import proofs.«01_k».proof.Proof.Hand.DiffScore
public import proofs.«01_k».proof.Proof.Hand.DiffKernel

@[expose] public section

set_option maxRecDepth 16384

noncomputable section

open Idealize.ShloMosaic Idealize.ShloMosaic.TcCoe Idealize.SL.Sem

namespace Cert.Proof.DiffAttn

open Cert.Kernel7Ideal Cert.Kernel7Ideal.Gen Cert.Reference7Ideal.Read Cert.Proof.Softmax

theorem v43_real (x0 : Proj) (hx : ∀ r k, IsR (x0 (ix2 r k))) (i : Fin 2) (b : Fin 4) (h : Fin 8) (p : Fin 2064) (d : Fin 128) :
    IsR (val_main_v43 (F := Ideal) x0 (ix5 i b h p d)) := by
  rw [ref_q]
  exact rope_real _ (fun e => by rw [ref_q0]; exact hx _ _) _ _

theorem v80_real (x0 : Proj) (hx : ∀ r k, IsR (x0 (ix2 r k))) (i : Fin 2) (b : Fin 4) (h : Fin 8) (p : Fin 2064) (d : Fin 128) :
    IsR (val_main_v80 (F := Ideal) x0 (ix5 i b h p d)) := by
  rw [ref_k]
  exact rope_real _ (fun e => by rw [ref_k0]; exact hx _ _) _ _

/-- One map: the body's weights at the sequence's keys are the reference's exponentials, and the padding's are zero. -/
theorem soft_at (x0 : Proj) (hx : ∀ r k, IsR (x0 (ix2 r k))) (i : Fin 2) (b : Fin 4) (h : Fin 8) (p : Fin 2064)
    (q : Fin 128 → EReal) (K : Vec Ideal S1x2176x128 .bf16) (hq : ∀ d, q d = val_main_v43 (F := Ideal) x0 (ix5 i b h p d))
    (hK : ∀ j d, K (ix3 0 (key j) d) = val_main_v80 (F := Ideal) x0 (ix5 i b h j d)) :
    ∃ E : Fin 2064 → ℝ, 0 < ∑ j, E j ∧ (∀ j, pr q K (key j) = (E j : EReal)) ∧ (∀ k : Fin 2176, 2064 ≤ k.val → pr q K k = 0)
      ∧ ∀ j, val_main_v106 (F := Ideal) x0 (ix5 i b h p j) = (E j : EReal) := by
  have hs : ∀ j, IsR (score x0 i b h p j) := fun j => by
    unfold score
    exact IsR.sum fun d => (v43_real x0 hx i b h p d).mul (v80_real x0 hx i b h j d)
  choose s hs using hs
  have hlt : ∀ j, (key j).val < 2064 := fun j => by rw [key_val]; split <;> omega
  obtain ⟨E, hE, h1, h2, h3⟩ := soft s (sc q K) (fun j => by
    unfold sc
    rw [if_pos (hlt j), ← hs j]
    unfold score
    exact Finset.sum_congr rfl fun d _ => by rw [hq, hK]) (fun k hk => by unfold sc; rw [if_neg (by omega)])
  refine ⟨E, hE, h1, h2, fun j => ?_⟩
  rw [ref_exp, ← h3 j]
  simp only [hs]

/-- The body's row before the normalisation is the reference's. -/
theorem row_at (x0 : Proj) (x1 x2 x3 x4 : Row) (hx : ∀ r k, IsR (x0 (ix2 r k))) (h1 : ∀ k, IsR (x1 (ix2 0 k))) (h2 : ∀ k, IsR (x2 (ix2 0 k)))
    (h3 : ∀ k, IsR (x3 (ix2 0 k))) (h4 : ∀ k, IsR (x4 (ix2 0 k))) (b : Fin 4) (h : Fin 8) (p : Fin 2064) (e : Fin 256)
    (q0 q1 : Fin 128 → EReal) (K0 K1 : Vec Ideal S1x2176x128 .bf16) (W : Vec Ideal S2176x256 .bf16) (l : EReal)
    (hq0 : ∀ d, q0 d = val_main_v43 (F := Ideal) x0 (ix5 0 b h p d)) (hq1 : ∀ d, q1 d = val_main_v43 (F := Ideal) x0 (ix5 1 b h p d))
    (hK0 : ∀ j d, K0 (ix3 0 (key j) d) = val_main_v80 (F := Ideal) x0 (ix5 0 b h j d)) (hK1 : ∀ j d, K1 (ix3 0 (key j) d) = val_main_v80 (F := Ideal) x0 (ix5 1 b h j d))
    (hW : ∀ j, W (ix2 (key j) e) = val_main_v83 (F := Ideal) x0 (ix4 b h j e))
    (hl : l = Ideal.exp (∑ k : Fin 128, x1 (ix2 0 k) * x2 (ix2 0 k)) - Ideal.exp (∑ k : Fin 128, x3 (ix2 0 k) * x4 (ix2 0 k)) + ((13421773 / 67108864 : ℝ) : EReal)) :
    (∑ k, pr q0 K0 k * W (ix2 k e)) * Ideal.div 1 (∑ k, pr q0 K0 k) - l * ((∑ k, pr q1 K1 k * W (ix2 k e)) * Ideal.div 1 (∑ k, pr q1 K1 k))
      = val_main_v118 (F := Ideal) x0 x1 x2 x3 x4 (ix4 b h p e) := by
  obtain ⟨E0, p0, a0, z0, r0⟩ := soft_at x0 hx 0 b h p q0 K0 hq0 hK0
  obtain ⟨E1, p1, a1, z1, r1⟩ := soft_at x0 hx 1 b h p q1 K1 hq1 hK1
  have hv : ∀ j, IsR (val_main_v83 (F := Ideal) x0 (ix4 b h j e)) := fun j => by rw [ref_v]; exact hx _ _
  choose v hv using hv
  have hlr : IsR l := hl ▸ ((((IsR.sum fun k => (h1 k).mul (h2 k)).exp).sub ((IsR.sum fun k => (h3 k).mul (h4 k)).exp)).add (.coe _))
  rw [ref_o, ref_lam, ← hl]
  obtain ⟨lr, rfl⟩ := hlr
  rw [sum_key _ (fun k hk => by rw [z0 k hk, zero_mul]), sum_key _ z0, sum_key _ (fun k hk => by rw [z1 k hk, zero_mul]), sum_key _ z1]
  simp only [a0, a1, r0, r1, hW, hv]
  exact diff E0 E1 v lr p0 p1

end Cert.Proof.DiffAttn

end
-- ==== Proof.Hand.DiffKeys.lean ====
/- Hand-written, untrusted: the rotated keys and the values the differential attention keeps in its scratch buffers, over the extended reals. -/
module

public import proofs.«01_k».proof.Proof.Hand.DiffKernel
public import Idealize.ShloMosaic.Lib.Pipeline.ValueKit

@[expose] public section

set_option maxRecDepth 16384

noncomputable section

open Idealize.ShloMosaic Idealize.ShloMosaic.TcCoe Idealize.SL.Sem

namespace Cert.Proof.DiffAttn

open Cert.Kernel7Ideal Cert.Kernel7Ideal.Gen

/-- The three rows of the table at position `p`. -/
def IsTab (T : Fin 3 → Fin 128 → EReal) (p : ℕ) : Prop := ∀ d,
  T 0 d = (if d.val < 16 then Ideal.cos (ang p d.val) else if d.val < 32 then Ideal.cos (ang p (d.val - 16)) else 1 : EReal)
  ∧ T 1 d = (if d.val < 16 then - Ideal.sin (ang p d.val) else 0 : EReal)
  ∧ T 2 d = (if d.val < 16 then 0 else if d.val < 32 then Ideal.sin (ang p (d.val - 16)) else 0 : EReal)

theorem pay1_at (x : Vec Ideal S2048x128 .bf16) (T : Vec Ideal S3x2048x128 .f32) (f : Fin 128 → EReal) (p : ℕ) (k : Fin 2048) (d : Fin 128)
    (hx : ∀ e, x (ix2 k e) = f e) (hT : IsTab (fun a d => T (ix3 a k d)) p) : k0_pay1 x T (ix3 0 k d) = rope f p d := by
  unfold k0_pay1
  pointwise
  simp only [back16, back112, hx]
  exact rope_tab f p d _ _ _ _ _ rfl rfl (hT d).1 (hT d).2.1 (hT d).2.2

theorem pay5_at (x : Vec Ideal S2048x128 .bf16) (T : Vec Ideal S3x2048x128 .f32) (f : Fin 128 → EReal) (p : ℕ) (k : Fin 2048) (d : Fin 128)
    (hx : ∀ e, x (ix2 k e) = f e) (hT : IsTab (fun a d => T (ix3 a k d)) p) : k0_pay5 x T (ix3 0 k d) = rope f p d := by
  unfold k0_pay5
  pointwise
  simp only [back16, back112, hx]
  exact rope_tab f p d _ _ _ _ _ rfl rfl (hT d).1 (hT d).2.1 (hT d).2.2

theorem pay3_at (x : Vec Ideal S16x128 .bf16) (T : Vec Ideal S3x16x128 .f32) (f : Fin 128 → EReal) (p : ℕ) (k : Fin 16) (d : Fin 128)
    (hx : ∀ e, x (ix2 k e) = f e) (hT : IsTab (fun a d => T (ix3 a k d)) p) : k0_pay3 (k0_pay2 x T) (ix3 0 k d) = rope f p d := by
  unfold k0_pay3 k0_pay2
  pointwise
  simp only [back16, back112, hx]
  exact rope_tab f p d _ _ _ _ _ rfl rfl (hT d).1 (hT d).2.1 (hT d).2.2

theorem pay10_at (x : Vec Ideal S16x128 .bf16) (T : Vec Ideal S3x16x128 .f32) (f : Fin 128 → EReal) (p : ℕ) (k : Fin 16) (d : Fin 128)
    (hx : ∀ e, x (ix2 k e) = f e) (hT : IsTab (fun a d => T (ix3 a k d)) p) : k0_pay10 (k0_pay6 x) (k0_pay7 T) (k0_pay8 x T) (k0_pay9 x) (ix3 0 k d) = rope f p d := by
  unfold k0_pay10 k0_pay9 k0_pay8 k0_pay7 k0_pay6
  pointwise
  simp only [back16, back112, hx]
  exact rope_tab f p d _ _ _ _ _ rfl rfl (hT d).1 (hT d).2.1 (hT d).2.2

theorem pay22_rope (x : Vec Ideal S2048x128 .bf16) (T : Vec Ideal S3x2048x128 .f32) (f : Fin 128 → EReal) (p : ℕ) (r : Fin 2048) (d : Fin 128)
    (hx : ∀ e, x (ix2 r e) = f e) (hT : IsTab (fun a d => T (ix3 a r d)) p) : k0_pay22 (k0_pay16 T) x (ix2 r d) = rope f p d := by
  rw [pay22_at, hx, hx, hx]
  exact rope_tab f p d _ _ _ _ _ rfl rfl (hT d).1 (hT d).2.1 (hT d).2.2

theorem pay19_rope (x : Vec Ideal S2048x128 .bf16) (T : Vec Ideal S3x2048x128 .f32) (f : Fin 128 → EReal) (p : ℕ) (r : Fin 2048) (d : Fin 128)
    (hx : ∀ e, x (ix2 r e) = f e) (hT : IsTab (fun a d => T (ix3 a r d)) p) :
    k0_pay19 T x (ix2 r d) + k0_pay20 T x (ix2 r d) + k0_pay18 x (ix2 r ⟨(d.val + 112) % 128, Nat.mod_lt _ (by decide)⟩) * k0_pay16 T (ix3 2 r d) = rope f p d := by
  have e1 : ∀ e, k0_pay18 x (ix2 r e) = x (ix2 r e) := fun e => by unfold k0_pay18; pointwise
  have e2 : k0_pay16 T (ix3 2 r d) = T (ix3 2 r d) := by unfold k0_pay16; pointwise
  rw [pay19_at, pay20_at, e1, e2, hx, hx, hx]
  exact rope_tab f p d _ _ _ _ _ rfl rfl (hT d).1 (hT d).2.1 (hT d).2.2

/-- Off the last write's rectangle the buffer is as the earlier writes left it. -/
theorem miss {S : Shape} {e : EltTy} (r : Rect S) (w : r.shape.Idx → Elt Ideal e) (L : List (View.Piece (Elt Ideal) S e)) (y : S.Idx) (a : Fin S.rank)
    (h : ∀ x, (r.idx x a).val ≠ (y a).val) : View.canon (⟨r, w⟩ :: L) y = View.canon L y :=
  View.canon_cons_of_not_mem _ _ fun hm => by
    obtain ⟨x, hx⟩ := r.exists_idx_of_mem hm
    exact h x (by rw [hx])

/-- On the last write's rectangle the buffer holds what was written. -/
theorem hit {S : Shape} {e : EltTy} (r : Rect S) (w : r.shape.Idx → Elt Ideal e) (L : List (View.Piece (Elt Ideal) S e)) (y : S.Idx) (x : r.shape.Idx)
    (h : y = r.idx x) : View.canon (⟨r, w⟩ :: L) y = w x := by
  subst h
  exact View.canon_cons_emb r w L x

theorem keys1_hi (h0) (h1) (h2) (h3) (h4) (h5) (w0 : Vec Ideal S1x112x128 .bf16) (w1 : Vec Ideal S1x16x128 .bf16) (w2 : Vec Ideal S1x2048x128 .bf16) (w3 : Vec Ideal S1x112x128 .bf16) (w4 : Vec Ideal S1x16x128 .bf16) (w5 : Vec Ideal S1x2048x128 .bf16) (y : S2x2176x128.Idx) (k : Fin 16) (d : Fin 128) (y0 : (y 0).val = 1) (y1 : (y 1).val = 2048 + k.val) (y2 : (y 2).val = d.val) :
    View.canon (Val := Elt Ideal) (s := S2x2176x128) (e := .bf16) [⟨Rect.unit ![1, 2064, 0] ![1, 112, 128] h0, w0⟩, ⟨Rect.unit ![1, 2048, 0] ![1, 16, 128] h1, w1⟩, ⟨Rect.unit ![1, 0, 0] ![1, 2048, 128] h2, w2⟩, ⟨Rect.unit ![0, 2064, 0] ![1, 112, 128] h3, w3⟩, ⟨Rect.unit ![0, 2048, 0] ![1, 16, 128] h4, w4⟩, ⟨Rect.unit ![0, 0, 0] ![1, 2048, 128] h5, w5⟩] y = w1 (ix3 0 k d) := by
  refine (miss _ _ _ y 1 fun x => ?_).trans ?_
  · rw [Rect.idx_unit_val, y1]
    show 2064 + (x 1).val ≠ _
    have hx : (x 1).val < 112 := (x 1).isLt
    omega
  refine hit (Rect.unit (s := S2x2176x128) ![1, 2048, 0] ![1, 16, 128] h1) w1 _ y (ix3 0 k d) (funext fun a => Fin.ext ?_)
  match a with
  | ⟨0, _⟩ => refine Eq.trans ?_ (Rect.idx_unit_val _ _ _ _ _).symm; exact y0
  | ⟨1, _⟩ => refine Eq.trans ?_ (Rect.idx_unit_val _ _ _ _ _).symm; exact y1
  | ⟨2, _⟩ => refine Eq.trans ?_ (Rect.idx_unit_val _ _ _ _ _).symm; exact y2.trans (Nat.zero_add _).symm

theorem keys1_lo (h0) (h1) (h2) (h3) (h4) (h5) (w0 : Vec Ideal S1x112x128 .bf16) (w1 : Vec Ideal S1x16x128 .bf16) (w2 : Vec Ideal S1x2048x128 .bf16) (w3 : Vec Ideal S1x112x128 .bf16) (w4 : Vec Ideal S1x16x128 .bf16) (w5 : Vec Ideal S1x2048x128 .bf16) (y : S2x2176x128.Idx) (k : Fin 2048) (d : Fin 128) (y0 : (y 0).val = 1) (y1 : (y 1).val = 0 + k.val) (y2 : (y 2).val = d.val) :
    View.canon (Val := Elt Ideal) (s := S2x2176x128) (e := .bf16) [⟨Rect.unit ![1, 2064, 0] ![1, 112, 128] h0, w0⟩, ⟨Rect.unit ![1, 2048, 0] ![1, 16, 128] h1, w1⟩, ⟨Rect.unit ![1, 0, 0] ![1, 2048, 128] h2, w2⟩, ⟨Rect.unit ![0, 2064, 0] ![1, 112, 128] h3, w3⟩, ⟨Rect.unit ![0, 2048, 0] ![1, 16, 128] h4, w4⟩, ⟨Rect.unit ![0, 0, 0] ![1, 2048, 128] h5, w5⟩] y = w2 (ix3 0 k d) := by
  refine (miss _ _ _ y 1 fun x => ?_).trans ?_
  · rw [Rect.idx_unit_val, y1]
    show 2064 + (x 1).val ≠ _
    have hx : (x 1).val < 112 := (x 1).isLt
    omega
  refine (miss _ _ _ y 1 fun x => ?_).trans ?_
  · rw [Rect.idx_unit_val, y1]
    show 2048 + (x 1).val ≠ _
    have hx : (x 1).val < 16 := (x 1).isLt
    omega
  refine hit (Rect.unit (s := S2x2176x128) ![1, 0, 0] ![1, 2048, 128] h2) w2 _ y (ix3 0 k d) (funext fun a => Fin.ext ?_)
  match a with
  | ⟨0, _⟩ => refine Eq.trans ?_ (Rect.idx_unit_val _ _ _ _ _).symm; exact y0
  | ⟨1, _⟩ => refine Eq.trans ?_ (Rect.idx_unit_val _ _ _ _ _).symm; exact y1
  | ⟨2, _⟩ => refine Eq.trans ?_ (Rect.idx_unit_val _ _ _ _ _).symm; exact y2.trans (Nat.zero_add _).symm

theorem keys0_hi (h0) (h1) (h2) (h3) (h4) (h5) (w0 : Vec Ideal S1x112x128 .bf16) (w1 : Vec Ideal S1x16x128 .bf16) (w2 : Vec Ideal S1x2048x128 .bf16) (w3 : Vec Ideal S1x112x128 .bf16) (w4 : Vec Ideal S1x16x128 .bf16) (w5 : Vec Ideal S1x2048x128 .bf16) (y : S2x2176x128.Idx) (k : Fin 16) (d : Fin 128) (y0 : (y 0).val = 0) (y1 : (y 1).val = 2048 + k.val) (y2 : (y 2).val = d.val) :
    View.canon (Val := Elt Ideal) (s := S2x2176x128) (e := .bf16) [⟨Rect.unit ![1, 2064, 0] ![1, 112, 128] h0, w0⟩, ⟨Rect.unit ![1, 2048, 0] ![1, 16, 128] h1, w1⟩, ⟨Rect.unit ![1, 0, 0] ![1, 2048, 128] h2, w2⟩, ⟨Rect.unit ![0, 2064, 0] ![1, 112, 128] h3, w3⟩, ⟨Rect.unit ![0, 2048, 0] ![1, 16, 128] h4, w4⟩, ⟨Rect.unit ![0, 0, 0] ![1, 2048, 128] h5, w5⟩] y = w4 (ix3 0 k d) := by
  refine (miss _ _ _ y 0 fun x => ?_).trans ?_
  · rw [Rect.idx_unit_val, y0]
    show 1 + (x 0).val ≠ _
    have hx : (x 0).val < 1 := (x 0).isLt
    omega
  refine (miss _ _ _ y 0 fun x => ?_).trans ?_
  · rw [Rect.idx_unit_val, y0]
    show 1 + (x 0).val ≠ _
    have hx : (x 0).val < 1 := (x 0).isLt
    omega
  refine (miss _ _ _ y 0 fun x => ?_).trans ?_
  · rw [Rect.idx_unit_val, y0]
    show 1 + (x 0).val ≠ _
    have hx : (x 0).val < 1 := (x 0).isLt
    omega
  refine (miss _ _ _ y 1 fun x => ?_).trans ?_
  · rw [Rect.idx_unit_val, y1]
    show 2064 + (x 1).val ≠ _
    have hx : (x 1).val < 112 := (x 1).isLt
    omega
  refine hit (Rect.unit (s := S2x2176x128) ![0, 2048, 0] ![1, 16, 128] h4) w4 _ y (ix3 0 k d) (funext fun a => Fin.ext ?_)
  match a with
  | ⟨0, _⟩ => refine Eq.trans ?_ (Rect.idx_unit_val _ _ _ _ _).symm; exact y0
  | ⟨1, _⟩ => refine Eq.trans ?_ (Rect.idx_unit_val _ _ _ _ _).symm; exact y1
  | ⟨2, _⟩ => refine Eq.trans ?_ (Rect.idx_unit_val _ _ _ _ _).symm; exact y2.trans (Nat.zero_add _).symm

theorem keys0_lo (h0) (h1) (h2) (h3) (h4) (h5) (w0 : Vec Ideal S1x112x128 .bf16) (w1 : Vec Ideal S1x16x128 .bf16) (w2 : Vec Ideal S1x2048x128 .bf16) (w3 : Vec Ideal S1x112x128 .bf16) (w4 : Vec Ideal S1x16x128 .bf16) (w5 : Vec Ideal S1x2048x128 .bf16) (y : S2x2176x128.Idx) (k : Fin 2048) (d : Fin 128) (y0 : (y 0).val = 0) (y1 : (y 1).val = 0 + k.val) (y2 : (y 2).val = d.val) :
    View.canon (Val := Elt Ideal) (s := S2x2176x128) (e := .bf16) [⟨Rect.unit ![1, 2064, 0] ![1, 112, 128] h0, w0⟩, ⟨Rect.unit ![1, 2048, 0] ![1, 16, 128] h1, w1⟩, ⟨Rect.unit ![1, 0, 0] ![1, 2048, 128] h2, w2⟩, ⟨Rect.unit ![0, 2064, 0] ![1, 112, 128] h3, w3⟩, ⟨Rect.unit ![0, 2048, 0] ![1, 16, 128] h4, w4⟩, ⟨Rect.unit ![0, 0, 0] ![1, 2048, 128] h5, w5⟩] y = w5 (ix3 0 k d) := by
  refine (miss _ _ _ y 0 fun x => ?_).trans ?_
  · rw [Rect.idx_unit_val, y0]
    show 1 + (x 0).val ≠ _
    have hx : (x 0).val < 1 := (x 0).isLt
    omega
  refine (miss _ _ _ y 0 fun x => ?_).trans ?_
  · rw [Rect.idx_unit_val, y0]
    show 1 + (x 0).val ≠ _
    have hx : (x 0).val < 1 := (x 0).isLt
    omega
  refine (miss _ _ _ y 0 fun x => ?_).trans ?_
  · rw [Rect.idx_unit_val, y0]
    show 1 + (x 0).val ≠ _
    have hx : (x 0).val < 1 := (x 0).isLt
    omega
  refine (miss _ _ _ y 1 fun x => ?_).trans ?_
  · rw [Rect.idx_unit_val, y1]
    show 2064 + (x 1).val ≠ _
    have hx : (x 1).val < 112 := (x 1).isLt
    omega
  refine (miss _ _ _ y 1 fun x => ?_).trans ?_
  · rw [Rect.idx_unit_val, y1]
    show 2048 + (x 1).val ≠ _
    have hx : (x 1).val < 16 := (x 1).isLt
    omega
  refine hit (Rect.unit (s := S2x2176x128) ![0, 0, 0] ![1, 2048, 128] h5) w5 _ y (ix3 0 k d) (funext fun a => Fin.ext ?_)
  match a with
  | ⟨0, _⟩ => refine Eq.trans ?_ (Rect.idx_unit_val _ _ _ _ _).symm; exact y0
  | ⟨1, _⟩ => refine Eq.trans ?_ (Rect.idx_unit_val _ _ _ _ _).symm; exact y1
  | ⟨2, _⟩ => refine Eq.trans ?_ (Rect.idx_unit_val _ _ _ _ _).symm; exact y2.trans (Nat.zero_add _).symm

theorem vals_hi (h0) (h1) (h2) (w0 : Vec Ideal S112x256 .bf16) (w1 : Vec Ideal S16x256 .bf16) (w2 : Vec Ideal S2048x256 .bf16) (y : S2176x256.Idx) (k : Fin 16) (d : Fin 256) (y0 : (y 0).val = 2048 + k.val) (y1 : (y 1).val = d.val) :
    View.canon (Val := Elt Ideal) (s := S2176x256) (e := .bf16) [⟨Rect.unit ![2064, 0] ![112, 256] h0, w0⟩, ⟨Rect.unit ![2048, 0] ![16, 256] h1, w1⟩, ⟨Rect.unit ![0, 0] ![2048, 256] h2, w2⟩] y = w1 (ix2 k d) := by
  refine (miss _ _ _ y 0 fun x => ?_).trans ?_
  · rw [Rect.idx_unit_val, y0]
    show 2064 + (x 0).val ≠ _
    have hx : (x 0).val < 112 := (x 0).isLt
    omega
  refine hit (Rect.unit (s := S2176x256) ![2048, 0] ![16, 256] h1) w1 _ y (ix2 k d) (funext fun a => Fin.ext ?_)
  match a with
  | ⟨0, _⟩ => refine Eq.trans ?_ (Rect.idx_unit_val _ _ _ _ _).symm; exact y0
  | ⟨1, _⟩ => refine Eq.trans ?_ (Rect.idx_unit_val _ _ _ _ _).symm; exact y1.trans (Nat.zero_add _).symm

theorem vals_lo (h0) (h1) (h2) (w0 : Vec Ideal S112x256 .bf16) (w1 : Vec Ideal S16x256 .bf16) (w2 : Vec Ideal S2048x256 .bf16) (y : S2176x256.Idx) (k : Fin 2048) (d : Fin 256) (y0 : (y 0).val = 0 + k.val) (y1 : (y 1).val = d.val) :
    View.canon (Val := Elt Ideal) (s := S2176x256) (e := .bf16) [⟨Rect.unit ![2064, 0] ![112, 256] h0, w0⟩, ⟨Rect.unit ![2048, 0] ![16, 256] h1, w1⟩, ⟨Rect.unit ![0, 0] ![2048, 256] h2, w2⟩] y = w2 (ix2 k d) := by
  refine (miss _ _ _ y 0 fun x => ?_).trans ?_
  · rw [Rect.idx_unit_val, y0]
    show 2064 + (x 0).val ≠ _
    have hx : (x 0).val < 112 := (x 0).isLt
    omega
  refine (miss _ _ _ y 0 fun x => ?_).trans ?_
  · rw [Rect.idx_unit_val, y0]
    show 2048 + (x 0).val ≠ _
    have hx : (x 0).val < 16 := (x 0).isLt
    omega
  refine hit (Rect.unit (s := S2176x256) ![0, 0] ![2048, 256] h2) w2 _ y (ix2 k d) (funext fun a => Fin.ext ?_)
  match a with
  | ⟨0, _⟩ => refine Eq.trans ?_ (Rect.idx_unit_val _ _ _ _ _).symm; exact y0
  | ⟨1, _⟩ => refine Eq.trans ?_ (Rect.idx_unit_val _ _ _ _ _).symm; exact y1.trans (Nat.zero_add _).symm

end Cert.Proof.DiffAttn

end
-- ==== Proof.Hand.DiffAttn.lean ====
/- Hand-written, untrusted: what the differential attention call leaves in its result array, over the extended reals. -/
module

public import proofs.«01_k».proof.Proof.Hand.DiffCombine
public import proofs.«01_k».proof.Proof.Hand.DiffKeys
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DiffAttn

open Cert.Kernel7Ideal Cert.Kernel7Ideal.Gen Cert.Reference7Ideal.Read

variable (m : (ℓ : Loc nD τ sig) → Buf (Elt Ideal) ℓ)

open Softmax (IsR key key_val)

theorem IsTab.of {T T' : Fin 3 → Fin 128 → EReal} {p : ℕ} (hT : IsTab T' p) (h : ∀ a d, T a d = T' a d) : IsTab T p := fun d => by
  rw [h, h, h]
  exact hT d

/-- Each row of the angle table belongs to the position of that row. -/
theorem tab (c : Dev nD) (r : Fin 2176) (p : ℕ) (hr : r.val < 2064) (hp : pos r.val = p) : IsTab (fun a d => V m c main_v31 (ix3 a r d)) p := fun d => by
  subst hp
  exact ⟨tab0 m c r d hr, tab1 m c r d hr, tab2 m c r d hr⟩

/-- The sequence and the head pair of a step of the call. -/
def b (t : Fin cfg0.N) : Fin 4 := ⟨t.val / 8, by have := t_lt t; omega⟩
def h (t : Fin cfg0.N) : Fin 8 := ⟨t.val % 8, by omega⟩

theorem q_row (c : Dev nD) (t : Fin cfg0.N) (i : Fin 2) (y0 : Fin 2048) (e : Fin 128) :
    X0_0 m c t (ix2 y0 ⟨i.val * 128 + e.val, by omega⟩) = val_main_v9 (F := Ideal) (m ((c : Thread nD τ).loc main_arg0)) (ix5 i (b t) (h t) ⟨16 + y0.val, by omega⟩ e) := by
  rw [q_at, ref_q0]
  refine congrArg _ (congrArg₂ (fun a b => ix2 a b) (Fin.ext ?_) (Fin.ext ?_))
  · show _ = src (t.val / 8) (16 + y0.val)
    rw [src, if_neg (by omega), Nat.add_sub_cancel_left]
  · show _ = t.val % 8 * 256 + i.val * 128 + e.val
    exact (Nat.add_assoc _ _ _).symm

theorem k_row (c : Dev nD) (t : Fin cfg0.N) (i : Fin 2) (k : Fin 2048) (e : Fin 128) :
    X0_1 m c t (ix2 k ⟨i.val * 128 + e.val, by omega⟩) = val_main_v46 (F := Ideal) (m ((c : Thread nD τ).loc main_arg0)) (ix5 i (b t) (h t) ⟨16 + k.val, by omega⟩ e) := by
  rw [k_at, ref_k0]
  refine congrArg _ (congrArg₂ (fun a b => ix2 a b) (Fin.ext ?_) (Fin.ext ?_))
  · show _ = src (t.val / 8) (16 + k.val)
    rw [src, if_neg (by omega), Nat.add_sub_cancel_left]
  · show _ = 2048 + t.val % 8 * 256 + i.val * 128 + e.val
    exact (Nat.add_assoc _ _ _).symm

theorem ke_row (c : Dev nD) (t : Fin cfg0.N) (i : Fin 2) (k : Fin 16) (e : Fin 128) :
    iblk m c 2 t (ix2 (⟨112 + k.val, by omega⟩ : Fin 128) (⟨i.val * 128 + e.val, by omega⟩ : Fin 256)) = val_main_v46 (F := Ideal) (m ((c : Thread nD τ).loc main_arg0)) (ix5 i (b t) (h t) ⟨k.val, by omega⟩ e) := by
  rw [ke_at, ref_k0]
  refine congrArg _ (congrArg₂ (fun a b => ix2 a b) (Fin.ext ?_) (Fin.ext ?_))
  · show _ = src (t.val / 8) k.val
    rw [src, if_pos k.isLt]
  · show _ = 2048 + t.val % 8 * 256 + i.val * 128 + e.val
    exact (Nat.add_assoc _ _ _).symm

theorem v_row (c : Dev nD) (t : Fin cfg0.N) (k : Fin 2048) (e : Fin 256) :
    X0_3 m c t (ix2 k e) = val_main_v83 (F := Ideal) (m ((c : Thread nD τ).loc main_arg0)) (ix4 (b t) (h t) ⟨16 + k.val, by omega⟩ e) := by
  rw [v_at, ref_v]
  refine congrArg _ (congrArg₂ (fun a b => ix2 a b) (Fin.ext ?_) rfl)
  show _ = src (t.val / 8) (16 + k.val)
  rw [src, if_neg (by omega), Nat.add_sub_cancel_left]

theorem ve_row (c : Dev nD) (t : Fin cfg0.N) (k : Fin 16) (e : Fin 256) :
    iblk m c 4 t (ix2 (⟨112 + k.val, by omega⟩ : Fin 128) e) = val_main_v83 (F := Ideal) (m ((c : Thread nD τ).loc main_arg0)) (ix4 (b t) (h t) ⟨k.val, by omega⟩ e) := by
  rw [ve_at, ref_v]
  refine congrArg _ (congrArg₂ (fun a b => ix2 a b) (Fin.ext ?_) rfl)
  show _ = src (t.val / 8) k.val
  rw [src, if_pos k.isLt]

/-- A row of the result, given the rotated keys and the values of the step's head pair. -/
theorem core (c : Dev nD) (hx : ∀ r k, IsR (m ((c : Thread nD τ).loc main_arg0) (ix2 r k)))
    (h1 : ∀ k, IsR (m ((c : Thread nD τ).loc main_arg1) (ix2 0 k))) (h2 : ∀ k, IsR (m ((c : Thread nD τ).loc main_arg2) (ix2 0 k)))
    (h3 : ∀ k, IsR (m ((c : Thread nD τ).loc main_arg3) (ix2 0 k))) (h4 : ∀ k, IsR (m ((c : Thread nD τ).loc main_arg4) (ix2 0 k))) (t : Fin cfg0.N) (y0 : Fin 2048) (y1 : Fin 256)
    (K0 K1 : Vec Ideal S1x2176x128 .bf16) (W : Vec Ideal S2176x256 .bf16)
    (hK0 : ∀ j d, K0 (ix3 0 (key j) d) = val_main_v80 (F := Ideal) (m ((c : Thread nD τ).loc main_arg0)) (ix5 0 (b t) (h t) j d))
    (hK1 : ∀ j d, K1 (ix3 0 (key j) d) = val_main_v80 (F := Ideal) (m ((c : Thread nD τ).loc main_arg0)) (ix5 1 (b t) (h t) j d))
    (hW : ∀ j e, W (ix2 (key j) e) = val_main_v83 (F := Ideal) (m ((c : Thread nD τ).loc main_arg0)) (ix4 (b t) (h t) j e)) :
    k0_pay23 (k0_pay15 (iblk m c 7 t) (iblk m c 8 t) (iblk m c 9 t) (iblk m c 10 t)) k0_pay17
      (k0_pay21 (k0_pay16 (X0_5 m c t)) k0_pay17
        (k0_pay18 (View.ld (X0_0 m c t) (Rect.unit ![0, 0] ![2048, 128] inb_S2048x256_S2048x128_0_0)))
        (k0_pay19 (X0_5 m c t) (View.ld (X0_0 m c t) (Rect.unit ![0, 0] ![2048, 128] inb_S2048x256_S2048x128_0_0)))
        (k0_pay20 (X0_5 m c t) (View.ld (X0_0 m c t) (Rect.unit ![0, 0] ![2048, 128] inb_S2048x256_S2048x128_0_0))) K0 W)
      (k0_pay22 (k0_pay16 (X0_5 m c t))
        (View.ld (X0_0 m c t) (Rect.unit ![0, 128] ![2048, 128] inb_S2048x256_S2048x128_0_128))) K1 W (iblk m c 11 t) (ix2 y0 y1)
    = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val / 8 * 2048 + y0.val, by have := t_lt t; omega⟩ ⟨t.val % 8 * 256 + y1.val, by omega⟩) := by
  have hT : ∀ p, p = 16 + y0.val → IsTab (fun a d => X0_5 m c t (ix3 a y0 d)) p := fun p hp =>
    (tab m c ⟨y0.val, by omega⟩ p (by show y0.val < 2064; omega) (by subst hp; show pos y0.val = _; rw [pos, if_pos y0.isLt, Nat.add_comm])).of fun a d => t5_at m c t a y0 d
  refine Eq.trans ?_ ((ref_out _ _ _ _ _ _ (b t) (h t) y0 y1).trans (ref_norm _ _ _ _ _ _ (b t) ⟨16 + y0.val, by omega⟩ (h t) y1 _ (fun _ => rfl))).symm
  refine (pay23_at _ _ _ _ _ _ y0 y1 (fun e => val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 (b t) (h t) ⟨16 + y0.val, by omega⟩ e)) (fun e => ?_)).trans ?_
  · rw [pay21_at _ _ _ _ _ _ y0 e (fun d => val_main_v43 (F := Ideal) (m ((c : Thread nD τ).loc main_arg0)) (ix5 0 (b t) (h t) ⟨16 + y0.val, by omega⟩ d)) ?_]
    · refine row_at _ _ _ _ _ hx h1 h2 h3 h4 (b t) (h t) ⟨16 + y0.val, by omega⟩ e _ _ _ _ _ _ (fun _ => rfl) (fun d => ?_) hK0 hK1 (fun j => hW j e) ?_
      · refine (pay22_rope _ _ (fun e => val_main_v9 (F := Ideal) (m ((c : Thread nD τ).loc main_arg0)) (ix5 1 (b t) (h t) ⟨16 + y0.val, by omega⟩ e)) _ y0 d (fun e => ?_) (hT _ rfl)).trans (ref_q _ 1 (b t) (h t) ⟨16 + y0.val, by omega⟩ d).symm
        rw [← q_row]
        exact congrArg (X0_0 m c t) (by idx_ext)
      · rw [pay15_at]
        simp only [lq1_at, lk1_at, lq2_at, lk2_at]
    · intro d
      refine (pay19_rope _ _ (fun e => val_main_v9 (F := Ideal) (m ((c : Thread nD τ).loc main_arg0)) (ix5 0 (b t) (h t) ⟨16 + y0.val, by omega⟩ e)) _ y0 d (fun e => ?_) (hT _ rfl)).trans (ref_q _ 0 (b t) (h t) ⟨16 + y0.val, by omega⟩ d).symm
      rw [← q_row]
      exact congrArg (X0_0 m c t) (by idx_ext)
  · rw [g_at]

/-- The second part's extra keys, as the call writes them out. -/
theorem pay10_out (x : Vec Ideal S16x128 .bf16) (T : Vec Ideal S3x16x128 .f32) (f : Fin 128 → EReal) (p : ℕ) (k : Fin 16) (d : Fin 128)
    (hx : ∀ e, x (ix2 k e) = f e) (hT : IsTab (fun a d => T (ix3 a k d)) p) (g1 g2 g3 g4 g5) :
    k0_pay10 (F := Ideal) (extf (φ := .bf16) FTy.f32 x g1) (shapeCast S3x16x128 T g2)
      (mulf (extf (φ := .bf16) FTy.f32 x g1) (shapeCast S16x128 (extractStridedSlice S1x16x128 ![0, 0, 0] (shapeCast S3x16x128 T g2) g3) g4))
      (dynamicRotate 1 (112#32) none (extf (φ := .bf16) FTy.f32 x g1) g5) (ix3 0 k d) = rope f p d := by
  have h := pay10_at x T f p k d hx hT
  unfold k0_pay9 k0_pay8 k0_pay7 k0_pay6 at h
  exact h

set_option maxHeartbeats 1000000 in
theorem final12 (c : Dev nD) (hx : ∀ r k, IsR (m ((c : Thread nD τ).loc main_arg0) (ix2 r k)))
    (h1 : ∀ k, IsR (m ((c : Thread nD τ).loc main_arg1) (ix2 0 k))) (h2 : ∀ k, IsR (m ((c : Thread nD τ).loc main_arg2) (ix2 0 k)))
    (h3 : ∀ k, IsR (m ((c : Thread nD τ).loc main_arg3) (ix2 0 k))) (h4 : ∀ k, IsR (m ((c : Thread nD τ).loc main_arg4) (ix2 0 k))) :
    (dats m 0 c).arrAt 12 cfg0.N
    = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]
  unfold outsAt0
  frame_out
  idx_vars y
  have ht := t_lt t
  have er : ((View.whole main_v42).slice (win0_12.rect t)).emb (ix2 y0 y1)
      = ix2 (⟨t.val / 8 * 2048 + y0.val, by omega⟩ : Fin 8192) (⟨t.val % 8 * 256 + y1.val, by omega⟩ : Fin 2048) := by
    blk_ext [idx t]
  rw [er]
  refine core m c hx h1 h2 h3 h4 t y0 y1 _ _ _ (fun j d => ?_) (fun j d => ?_) (fun j e => ?_)
  · rw [View.readCov_eq_canon']
    by_cases hj : j.val < 16
    · refine (keys0_hi _ _ _ _ _ _ _ _ _ _ _ _ _ ⟨j.val, by omega⟩ d ?_ ?_ ?_).trans ?_
      · exact (Rect.idx_unit_val _ _ _ _ _).trans rfl
      · refine (Rect.idx_unit_val _ _ _ _ _).trans ?_
        show 0 + (key j).val = _
        simp only [key_val]
        split <;> omega
      · exact (Rect.idx_unit_val _ _ _ _ _).trans (Nat.zero_add _)
      · refine (pay3_at _ _ (fun e => val_main_v46 (F := Ideal) (m ((c : Thread nD τ).loc main_arg0)) (ix5 0 (b t) (h t) j e)) j.val ⟨j.val, by omega⟩ d (fun e => ?_) ?_).trans (ref_k _ 0 (b t) (h t) j d).symm
        · refine Eq.trans ?_ ((ke_row m c t 0 ⟨j.val, by omega⟩ e).trans ?_)
          · exact congrArg (iblk m c 2 t) (by idx_ext)
          · refine congrArg _ (congrArg (fun p => ix5 0 (b t) (h t) p e) (Fin.ext ?_))
            show j.val = j.val
            omega
        · refine (tab m c ⟨2048 + (j.val), by omega⟩ j.val (by show 2048 + (j.val) < 2064; omega) (by show pos (2048 + (j.val)) = _; unfold pos; split <;> omega)).of fun a d => ?_
          refine Eq.trans ?_ (t6_at m c t a ⟨2048 + (j.val), by omega⟩ d)
          exact congrArg (iblk m c 6 t) (by idx_ext)
    · refine (keys0_lo _ _ _ _ _ _ _ _ _ _ _ _ _ ⟨j.val - 16, by omega⟩ d ?_ ?_ ?_).trans ?_
      · exact (Rect.idx_unit_val _ _ _ _ _).trans rfl
      · refine (Rect.idx_unit_val _ _ _ _ _).trans ?_
        show 0 + (key j).val = _
        simp only [key_val]
        split <;> omega
      · exact (Rect.idx_unit_val _ _ _ _ _).trans (Nat.zero_add _)
      · refine (pay1_at _ _ (fun e => val_main_v46 (F := Ideal) (m ((c : Thread nD τ).loc main_arg0)) (ix5 0 (b t) (h t) j e)) j.val ⟨j.val - 16, by omega⟩ d (fun e => ?_) ?_).trans (ref_k _ 0 (b t) (h t) j d).symm
        · refine Eq.trans ?_ ((k_row m c t 0 ⟨j.val - 16, by omega⟩ e).trans ?_)
          · exact congrArg (X0_1 m c t) (by idx_ext)
          · refine congrArg _ (congrArg (fun p => ix5 0 (b t) (h t) p e) (Fin.ext ?_))
            show 16 + (j.val - 16) = j.val
            omega
        · refine (tab m c ⟨0 + (j.val - 16), by omega⟩ j.val (by show 0 + (j.val - 16) < 2064; omega) (by show pos (0 + (j.val - 16)) = _; unfold pos; split <;> omega)).of fun a d => ?_
          refine Eq.trans ?_ (t6_at m c t a ⟨0 + (j.val - 16), by omega⟩ d)
          exact congrArg (iblk m c 6 t) (by idx_ext)
  · rw [View.readCov_eq_canon']
    by_cases hj : j.val < 16
    · refine (keys1_hi _ _ _ _ _ _ _ _ _ _ _ _ _ ⟨j.val, by omega⟩ d ?_ ?_ ?_).trans ?_
      · exact (Rect.idx_unit_val _ _ _ _ _).trans rfl
      · refine (Rect.idx_unit_val _ _ _ _ _).trans ?_
        show 0 + (key j).val = _
        simp only [key_val]
        split <;> omega
      · exact (Rect.idx_unit_val _ _ _ _ _).trans (Nat.zero_add _)
      · refine (pay10_out _ _ (fun e => val_main_v46 (F := Ideal) (m ((c : Thread nD τ).loc main_arg0)) (ix5 1 (b t) (h t) j e)) j.val ⟨j.val, by omega⟩ d (fun e => ?_) ?_ _ _ _ _ _).trans (ref_k _ 1 (b t) (h t) j d).symm
        · refine Eq.trans ?_ ((ke_row m c t 1 ⟨j.val, by omega⟩ e).trans ?_)
          · exact congrArg (iblk m c 2 t) (by idx_ext)
          · refine congrArg _ (congrArg (fun p => ix5 1 (b t) (h t) p e) (Fin.ext ?_))
            show j.val = j.val
            omega
        · refine (tab m c ⟨2048 + (j.val), by omega⟩ j.val (by show 2048 + (j.val) < 2064; omega) (by show pos (2048 + (j.val)) = _; unfold pos; split <;> omega)).of fun a d => ?_
          refine Eq.trans ?_ (t6_at m c t a ⟨2048 + (j.val), by omega⟩ d)
          exact congrArg (iblk m c 6 t) (by idx_ext)
    · refine (keys1_lo _ _ _ _ _ _ _ _ _ _ _ _ _ ⟨j.val - 16, by omega⟩ d ?_ ?_ ?_).trans ?_
      · exact (Rect.idx_unit_val _ _ _ _ _).trans rfl
      · refine (Rect.idx_unit_val _ _ _ _ _).trans ?_
        show 0 + (key j).val = _
        simp only [key_val]
        split <;> omega
      · exact (Rect.idx_unit_val _ _ _ _ _).trans (Nat.zero_add _)
      · refine (pay5_at _ _ (fun e => val_main_v46 (F := Ideal) (m ((c : Thread nD τ).loc main_arg0)) (ix5 1 (b t) (h t) j e)) j.val ⟨j.val - 16, by omega⟩ d (fun e => ?_) ?_).trans (ref_k _ 1 (b t) (h t) j d).symm
        · refine Eq.trans ?_ ((k_row m c t 1 ⟨j.val - 16, by omega⟩ e).trans ?_)
          · exact congrArg (X0_1 m c t) (by idx_ext)
          · refine congrArg _ (congrArg (fun p => ix5 1 (b t) (h t) p e) (Fin.ext ?_))
            show 16 + (j.val - 16) = j.val
            omega
        · refine (tab m c ⟨0 + (j.val - 16), by omega⟩ j.val (by show 0 + (j.val - 16) < 2064; omega) (by show pos (0 + (j.val - 16)) = _; unfold pos; split <;> omega)).of fun a d => ?_
          refine Eq.trans ?_ (t6_at m c t a ⟨0 + (j.val - 16), by omega⟩ d)
          exact congrArg (iblk m c 6 t) (by idx_ext)
  · rw [View.readCov_eq_canon']
    by_cases hj : j.val < 16
    · refine (vals_hi _ _ _ _ _ _ _ ⟨j.val, by omega⟩ e ?_ ?_).trans ?_
      · refine (Rect.idx_unit_val _ _ _ _ _).trans ?_
        show 0 + (key j).val = _
        simp only [key_val]
        split <;> omega
      · exact (Rect.idx_unit_val _ _ _ _ _).trans (Nat.zero_add _)
      · unfold k0_pay13
        pointwise
        refine Eq.trans ?_ ((ve_row m c t ⟨j.val, by omega⟩ e).trans ?_)
        · exact congrArg (iblk m c 4 t) (by idx_ext)
        · refine congrArg _ (congrArg (fun p => ix4 (b t) (h t) p e) (Fin.ext ?_))
          show j.val = j.val
          omega
    · refine (vals_lo _ _ _ _ _ _ _ ⟨j.val - 16, by omega⟩ e ?_ ?_).trans ?_
      · refine (Rect.idx_unit_val _ _ _ _ _).trans ?_
        show 0 + (key j).val = _
        simp only [key_val]
        split <;> omega
      · exact (Rect.idx_unit_val _ _ _ _ _).trans (Nat.zero_add _)
      · unfold k0_pay12
        pointwise
        refine Eq.trans ?_ ((v_row m c t ⟨j.val - 16, by omega⟩ e).trans ?_)
        · exact congrArg (X0_3 m c t) (by idx_ext)
        · refine congrArg _ (congrArg (fun p => ix4 (b t) (h t) p e) (Fin.ext ?_))
          show 16 + (j.val - 16) = j.val
          omega

end Cert.Proof.DiffAttn

end
-- ==== Proof.Hand.DiffPre.lean ====
/- Hand-written, untrusted: what the precondition of the differential attention call says, read entry by entry. -/
module

public import proofs.«01_k».proof.Pre_finite7
public import proofs.«01_k».proof.Proof.Hand.Consts
public import proofs.«01_k».proof.Proof.Hand.Softmax
public import Idealize.ShloMosaic.Lib.Pipeline.ValueKit

@[expose] public section

noncomputable section

open Idealize.ShloMosaic

namespace Cert.Proof.DiffPre

open Cert.Pre_finite7
open Softmax (IsR)

/-- The side conditions the precondition states. -/
instance facts : Cert.Pre_finite7.Facts := ⟨by decide, by decide, by decide⟩

/-- A comparison with infinity that came out true names a real number. -/
theorem real_of_lt (x : EReal) (h : Ideal.cmp .olt (max x (-x)) (Ideal.ofBits FTy.f32 0x7F800000#32) = 1#1) : IsR x := by
  rw [Consts.c_top] at h
  by_cases hx : max x (-x) < ⊤
  · exact IsR.of_abs hx
  · simp [Ideal.cmp, hx] at h

/-- Where the precondition holds, the projections and the four rows of the mixing weight are real. -/
theorem real (x0 : FVec Ideal S8704x6144 .bf16) (x1 x2 x3 x4 : FVec Ideal S1x128 .f32) (x5 : FVec Ideal S1x256 .f32)
    (h : (fn (F := Ideal) x0 x1 x2 x3 x4 x5).1 = (fun _ => 1#1) ∧ (fn (F := Ideal) x0 x1 x2 x3 x4 x5).2.1 = (fun _ => 1#1)
      ∧ (fn (F := Ideal) x0 x1 x2 x3 x4 x5).2.2.1 = (fun _ => 1#1) ∧ (fn (F := Ideal) x0 x1 x2 x3 x4 x5).2.2.2.1 = (fun _ => 1#1)
      ∧ (fn (F := Ideal) x0 x1 x2 x3 x4 x5).2.2.2.2 = (fun _ => 1#1)) :
    (∀ i, IsR (x0 i)) ∧ (∀ i, IsR (x1 i)) ∧ (∀ i, IsR (x2 i)) ∧ (∀ i, IsR (x3 i)) ∧ ∀ i, IsR (x4 i) :=
  ⟨fun i => real_of_lt _ (congrFun h.1 i), fun i => real_of_lt _ (congrFun h.2.1 i), fun i => real_of_lt _ (congrFun h.2.2.1 i),
    fun i => real_of_lt _ (congrFun h.2.2.2.1 i), fun i => real_of_lt _ (congrFun h.2.2.2.2 i)⟩

end Cert.Proof.DiffPre

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Hand.InProjGla
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Hand.InProjDiff
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Hand.GateGla
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Hand.GateMerge
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Hand.Merge
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Hand.NormDecay
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Hand.DiffAttn
public import proofs.«01_k».proof.Proof.Hand.DiffPre
public import proofs.«01_k».proof.Proof.Gen.Kernel8.Frame
public import proofs.«01_k».proof.Proof.Gen.Kernel8Ideal.Frame
public import Idealize.ShloMosaic.Lib.Claim
public import Idealize.ShloMosaic.Adequacy
public import Idealize.ShloMosaic.Init

@[expose] public section

noncomputable section

namespace Cert.Proof

open Idealize.ShloMosaic Idealize.SL.Sem

/-- The reference of `InProjGla` runs, keeps its arguments and, having no semaphore, leaves every counter at zero. -/
theorem referenceRun : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The results of `InProjGla`'s call equal its reference's, over the extended reals. -/
theorem algebraic : Cert.algebraic_KernelIdeal_ReferenceIdeal := by
  pair_intro
  · run_from Cert.KernelIdeal.Gen.run_main m g
  · run_from Cert.ReferenceIdeal.Value.run m' g'
    · exact (InProjGla.final3 m c).symm
    · exact (InProjGla.final4 m c).symm

/-- The reference of `InProjDiff` runs, keeps its arguments and, having no semaphore, leaves every counter at zero. -/
theorem reference2Run : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The results of `InProjDiff`'s call equal its reference's, over the extended reals. -/
theorem algebraic2 : Cert.algebraic_Kernel2Ideal_Reference2Ideal := by
  pair_intro
  · run_from Cert.Kernel2Ideal.Gen.run_main m g
  · run_from Cert.Reference2Ideal.Value.run m' g'
    · exact (InProjDiff.final3 m c).symm
    · exact (InProjDiff.final4 m c).symm

/-- The reference of `GateGla` runs, keeps its arguments and, having no semaphore, leaves every counter at zero. -/
theorem reference3Run : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The results of `GateGla`'s call equal its reference's, over the extended reals. -/
theorem algebraic3 : Cert.algebraic_Kernel3Ideal_Reference3Ideal := by
  pair_intro
  · run_from Cert.Kernel3Ideal.Gen.run_main m g
  · run_from Cert.Reference3Ideal.Value.run m' g'
    exact (GateGla.final2 m c).symm

/-- The reference of `GateMerge` runs, keeps its arguments and, having no semaphore, leaves every counter at zero. -/
theorem reference4Run : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The results of `GateMerge`'s call equal its reference's, over the extended reals. -/
theorem algebraic4 : Cert.algebraic_Kernel4Ideal_Reference4Ideal := by
  pair_intro
  · run_from Cert.Kernel4Ideal.Gen.run_main m g
  · run_from Cert.Reference4Ideal.Value.run m' g'
    exact (GateMerge.final2 m c).symm

/-- The reference of `Merge` runs, keeps its arguments and, having no semaphore, leaves every counter at zero. -/
theorem reference5Run : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The results of `Merge`'s call equal its reference's, over the extended reals. -/
theorem algebraic5 : Cert.algebraic_Kernel5Ideal_Reference5Ideal := by
  pair_intro
  · run_from Cert.Kernel5Ideal.Gen.run_main m g
  · run_from Cert.Reference5Ideal.Value.run m' g'
    · exact (Merge.final9 m c).symm
    · refine (Cert.Reference5Ideal.Read.val_main_v41_eq m' c).trans (Eq.trans ?_ (Merge.final10 m c).symm)
      simp only [hagree c]
    · refine (Cert.Reference5Ideal.Read.val_main_v43_eq m' c).trans (Eq.trans ?_ (Merge.final11 m c).symm)
      simp only [hagree c]

/-- The reference of `NormDecay` runs, keeps its arguments and, having no semaphore, leaves every counter at zero. -/
theorem reference6Run : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The results of `NormDecay`'s call equal its reference's, over the extended reals. -/
theorem algebraic6 : Cert.algebraic_Kernel6Ideal_Reference6Ideal := by
  pair_intro
  · run_from NormDecay.run m g
  · refine (θ_run Cert.Reference6Ideal.defs _ _).mono (fun r h c => ⟨(h c).1.trans ?_, (h c).2.1.trans ?_, (h c).2.2.1.trans ?_, (h c).2.2.2⟩)
      (Cert.Reference6Ideal.Value.run (F := Ideal) m' g')
    · rw [Cert.Reference6Ideal.Read.val_main_v41_eq m' c]
      simp only [hagree c]
    · rw [Cert.Reference6Ideal.Read.val_main_v31_eq m' c]
      simp only [hagree c]
    · rw [Cert.Reference6Ideal.Read.val_main_v40_eq m' c]
      simp only [hagree c]

/-- The reference of `DiffAttn` runs, keeps its arguments and, having no semaphore, leaves every counter at zero. -/
theorem reference7Run : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The result of `DiffAttn`'s call equals its reference's, over the extended reals, for real projections and mixing rows. -/
theorem algebraic7 : Cert.algebraic_Kernel7Ideal_Reference7Ideal_pre_finite7 := by
  pair_intro
  · run_from Cert.Kernel7Ideal.Gen.run_main m g
  · refine (θ_run Cert.Reference7Ideal.defs _ _).mono (fun r h c => ⟨(h c).1.trans ?_, (h c).2⟩)
      (Cert.Reference7Ideal.Value.run (F := Ideal) m' g')
    obtain ⟨h0, h1, h2, h3, h4⟩ := DiffPre.real _ _ _ _ _ _ (hpre c)
    refine (Cert.Reference7Ideal.Read.val_main_v138_eq _).trans (Eq.trans ?_ (DiffAttn.final12 m c (fun _ _ => h0 _) (fun _ => h1 _) (fun _ => h2 _) (fun _ => h3 _) (fun _ => h4 _)).symm)
    simp only [hagree c]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, DiffPre.facts,
  fun m ρ _ => Cert.Kernel.Gen.frame m ρ, fun m ρ _ => Cert.KernelIdeal.Gen.frame m ρ, referenceRun,
  fun m ρ _ => Cert.Kernel2.Gen.frame m ρ, fun m ρ _ => Cert.Kernel2Ideal.Gen.frame m ρ, reference2Run,
  fun m ρ _ => Cert.Kernel3.Gen.frame m ρ, fun m ρ _ => Cert.Kernel3Ideal.Gen.frame m ρ, reference3Run,
  fun m ρ _ => Cert.Kernel4.Gen.frame m ρ, fun m ρ _ => Cert.Kernel4Ideal.Gen.frame m ρ, reference4Run,
  fun m ρ _ => Cert.Kernel5.Gen.frame m ρ, fun m ρ _ => Cert.Kernel5Ideal.Gen.frame m ρ, reference5Run,
  fun m ρ _ => Cert.Kernel6.Gen.frame m ρ, fun m ρ _ => Cert.Kernel6Ideal.Gen.frame m ρ, reference6Run,
  fun m ρ _ => Cert.Kernel7.Gen.frame m ρ, fun m ρ _ => Cert.Kernel7Ideal.Gen.frame m ρ, fun m ρ _ => Cert.Kernel7Ideal.Gen.frame m ρ,
  reference7Run, fun m ρ _ => reference7Run m ρ trivial,
  fun m ρ _ => Cert.Kernel8.Gen.frame m ρ, fun m ρ _ => Cert.Kernel8Ideal.Gen.frame m ρ,
  trivial, algebraic, trivial, algebraic2, trivial, algebraic3, trivial, algebraic4, trivial, algebraic5, trivial, algebraic6,
  ⟨IdealRules.named_const.statement _ _ _ _ _ rfl, IdealRules.named_const.statement _ _ _ _ _ rfl⟩, algebraic7,
  IdealRules.named_const.statement _ _ _ _ _ rfl⟩

end Cert.Proof

end
